-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg_half_log2e" .f32 0xBF38AA3B#32 ((-((2 * (Real.log 2))⁻¹) : ℝ) : EReal)
  ∧ IdealRules.named_const.Statement Cert.KernelIdeal.κ "hidden" .f32 0xC6000000#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x3 : Shape := ⟨2, ![16384, 3]⟩
abbrev S4096x3 : Shape := ⟨2, ![4096, 3]⟩
abbrev S4096x16 : Shape := ⟨2, ![4096, 16]⟩
abbrev S4096x3x3 : Shape := ⟨3, ![4096, 3, 3]⟩
abbrev S3 : Shape := ⟨1, ![3]⟩
abbrev S1x3 : Shape := ⟨2, ![1, 3]⟩
abbrev S_ : Shape := ⟨0, ![]⟩
abbrev S4096x1x1 : Shape := ⟨3, ![4096, 1, 1]⟩
abbrev S4096 : Shape := ⟨1, ![4096]⟩
abbrev S4096x1 : Shape := ⟨2, ![4096, 1]⟩

class Facts : Prop where
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  bcast_S_S16384x3 : S_.BroadcastsInDim S16384x3 (![] : Fin 0 → Fin S16384x3.rank)
  reducesTo_S16384x3_S_d0_1 : S16384x3.ReducesTo [0, 1] S_
  h_S_ : 0 < S_.numel
  bcast_S1x3_S4096x3_0_1 : S1x3.BroadcastsInDim S4096x3 (![0, 1] : Fin 2 → Fin S4096x3.rank)
  bcast_S_S4096x3 : S_.BroadcastsInDim S4096x3 (![] : Fin 0 → Fin S4096x3.rank)
  reducesTo_S4096x3_S_d0_1 : S4096x3.ReducesTo [0, 1] S_
  slices_S4096x3x3_S4096x1x1_0_0_0 : S4096x3x3.Slices ![0, 0, 0] S4096x1x1
  shapeCasts_S4096x1x1_S4096 : S4096x1x1.ShapeCasts S4096
  slices_S4096x3x3_S4096x1x1_0_1_1 : S4096x3x3.Slices ![0, 1, 1] S4096x1x1
  slices_S4096x3x3_S4096x1x1_0_2_2 : S4096x3x3.Slices ![0, 2, 2] S4096x1x1
  slices_S4096x3x3_S4096x1x1_0_0_1 : S4096x3x3.Slices ![0, 0, 1] S4096x1x1
  slices_S4096x3x3_S4096x1x1_0_1_2 : S4096x3x3.Slices ![0, 1, 2] S4096x1x1
  slices_S4096x3x3_S4096x1x1_0_0_2 : S4096x3x3.Slices ![0, 0, 2] S4096x1x1
  bcast_S_S4096 : S_.BroadcastsInDim S4096 (![] : Fin 0 → Fin S4096.rank)
  reducesTo_S4096_S_d0 : S4096.ReducesTo [0] S_
  reducesTo_S4096x3_S4096_d1 : S4096x3.ReducesTo [1] S4096
  bcast_S4096_S4096x1_0 : S4096.BroadcastsInDim S4096x1 (![0] : Fin 1 → Fin S4096x1.rank)
  bcast_S4096x1_S4096x3_0_1 : S4096x1.BroadcastsInDim S4096x3 (![0, 1] : Fin 2 → Fin S4096x3.rank)

variable [Facts]

def fn_part4 {F : FTy → Type} [FloatOps F] (main_v10 : IVec S_ 1) (main_v16 : IVec S_ 1) (main_v52 : IVec S_ 1) (main_v69 : IVec S_ 1) (main_v74 : FVec F S4096x3 .f32) (main_v78 : FVec F S4096 .f32) : IVec S_ 1 :=
  let main_v79 : FVec F S4096x1 .f32 := broadcastInDim S4096x1 ![0] bcast_S4096_S4096x1_0 main_v78
  let main_v80 : FVec F S4096x3 .f32 := Host.absf main_v74
  let main_v81 : FVec F S4096x3 .f32 := broadcastInDim S4096x3 ![0, 1] bcast_S4096x1_S4096x3_0_1 main_v79
  let main_v82 : IVec S4096x3 1 := cmpf .ole main_v80 main_v81
  let main_cst_15 : FVec F S_ .f32 := constant S_ .f32 0x3F800000#32
  let main_v83 : FVec F S4096x3 .f32 := broadcastInDim S4096x3 ![] bcast_S_S4096x3 main_cst_15
  let main_v84 : FVec F S4096x3 .f32 := subf main_v83 main_v74
  let main_v85 : FVec F S4096x3 .f32 := Host.absf main_v84
  let main_v86 : FVec F S4096x3 .f32 := broadcastInDim S4096x3 ![0, 1] bcast_S4096x1_S4096x3_0_1 main_v79
  let main_v87 : IVec S4096x3 1 := cmpf .olt main_v86 main_v85
  let main_v88 : IVec S4096x3 1 := ori main_v82 main_v87
  let main_c_16 : IVec S_ 1 := constantI S_ 1 1#1
  let main_v89 : IVec S_ 1 := (fun x v => Host.reduce IntOp.andi x v reducesTo_S4096x3_S_d0_1 h_S_) main_v88 main_c_16
  let main_v90 : IVec S_ 1 := andi main_v10 main_v16
  let main_v91 : IVec S_ 1 := andi main_v90 main_v52
  let main_v92 : IVec S_ 1 := andi main_v91 main_v69
  let main_v93 : IVec S_ 1 := andi main_v92 main_v89
  main_v93

def fn_part3 {F : FTy → Type} [FloatOps F] (main_arg1 : FVec F S4096x3 .f32) (main_arg3 : FVec F S4096x3 .f32) (main_v0 : FVec F S1x3 .f32) (main_v10 : IVec S_ 1) (main_v16 : IVec S_ 1) (main_v20 : FVec F S4096 .f32) (main_v24 : FVec F S4096 .f32) (main_v26 : FVec F S4096 .f32) (main_v28 : FVec F S4096 .f32) (main_v52 : IVec S_ 1) (main_v56 : FVec F S4096 .f32) (main_v59 : FVec F S4096 .f32) : IVec S_ 1 :=
  let main_v60 : FVec F S4096 .f32 := mulf main_v24 main_v59
  let main_v61 : FVec F S4096 .f32 := addf main_v56 main_v60
  let main_v62 : FVec F S4096 .f32 := mulf main_v24 main_v26
  let main_v63 : FVec F S4096 .f32 := mulf main_v20 main_v28
  let main_v64 : FVec F S4096 .f32 := subf main_v62 main_v63
  let main_v65 : FVec F S4096 .f32 := mulf main_v28 main_v64
  let main_v66 : FVec F S4096 .f32 := addf main_v61 main_v65
  let main_cst_10 : FVec F S_ .f32 := constant S_ .f32 0x00000000#32
  let main_v67 : FVec F S4096 .f32 := broadcastInDim S4096 ![] bcast_S_S4096 main_cst_10
  let main_v68 : IVec S4096 1 := cmpf .une main_v66 main_v67
  let main_c_11 : IVec S_ 1 := constantI S_ 1 1#1
  let main_v69 : IVec S_ 1 := (fun x v => Host.reduce IntOp.andi x v reducesTo_S4096_S_d0 h_S_) main_v68 main_c_11
  let main_v70 : FVec F S4096x3 .f32 := broadcastInDim S4096x3 ![0, 1] bcast_S1x3_S4096x3_0_1 main_v0
  let main_v71 : FVec F S4096x3 .f32 := subf main_arg1 main_v70
  let main_cst_12 : FVec F S_ .f32 := constant S_ .f32 0x40000000#32
  let main_v72 : FVec F S4096x3 .f32 := broadcastInDim S4096x3 ![] bcast_S_S4096x3 main_cst_12
  let main_v73 : FVec F S4096x3 .f32 := mulf main_v71 main_v72
  let main_v74 : FVec F S4096x3 .f32 := Host.floor main_v73
  let main_cst_13 : FVec F S_ .f32 := constant S_ .f32 0xFF800000#32
  let main_v75 : FVec F S4096 .f32 := (fun x v => Host.reduce FloatOps.maximumf x v reducesTo_S4096x3_S4096_d1 h_S_) main_arg3 main_cst_13
  let main_cst_14 : FVec F S_ .f32 := constant S_ .f32 0x40C00000#32
  let main_v76 : FVec F S4096 .f32 := broadcastInDim S4096 ![] bcast_S_S4096 main_cst_14
  let main_v77 : FVec F S4096 .f32 := mulf main_v75 main_v76
  let main_v78 : FVec F S4096 .f32 := Host.ceil main_v77
  fn_part4 (F := F) main_v10 main_v16 main_v52 main_v69 main_v74 main_v78

def fn_part2 {F : FTy → Type} [FloatOps F] (main_arg1 : FVec F S4096x3 .f32) (main_arg3 : FVec F S4096x3 .f32) (main_v0 : FVec F S1x3 .f32) (main_v10 : IVec S_ 1) (main_v16 : IVec S_ 1) (main_v18 : FVec F S4096 .f32) (main_v20 : FVec F S4096 .f32) (main_v22 : FVec F S4096 .f32) (main_v24 : FVec F S4096 .f32) (main_v26 : FVec F S4096 .f32) (main_v28 : FVec F S4096 .f32) (main_v39 : IVec S4096 1) : IVec S_ 1 :=
  let main_v40 : FVec F S4096 .f32 := Host.absf main_v24
  let main_cst_6 : FVec F S_ .f32 := constant S_ .f32 0x7F800000#32
  let main_v41 : FVec F S4096 .f32 := broadcastInDim S4096 ![] bcast_S_S4096 main_cst_6
  let main_v42 : IVec S4096 1 := cmpf .olt main_v40 main_v41
  let main_v43 : IVec S4096 1 := andi main_v39 main_v42
  let main_v44 : FVec F S4096 .f32 := Host.absf main_v26
  let main_cst_7 : FVec F S_ .f32 := constant S_ .f32 0x7F800000#32
  let main_v45 : FVec F S4096 .f32 := broadcastInDim S4096 ![] bcast_S_S4096 main_cst_7
  let main_v46 : IVec S4096 1 := cmpf .olt main_v44 main_v45
  let main_v47 : IVec S4096 1 := andi main_v43 main_v46
  let main_v48 : FVec F S4096 .f32 := Host.absf main_v28
  let main_cst_8 : FVec F S_ .f32 := constant S_ .f32 0x7F800000#32
  let main_v49 : FVec F S4096 .f32 := broadcastInDim S4096 ![] bcast_S_S4096 main_cst_8
  let main_v50 : IVec S4096 1 := cmpf .olt main_v48 main_v49
  let main_v51 : IVec S4096 1 := andi main_v47 main_v50
  let main_c_9 : IVec S_ 1 := constantI S_ 1 1#1
  let main_v52 : IVec S_ 1 := (fun x v => Host.reduce IntOp.andi x v reducesTo_S4096_S_d0 h_S_) main_v51 main_c_9
  let main_v53 : FVec F S4096 .f32 := mulf main_v20 main_v22
  let main_v54 : FVec F S4096 .f32 := mulf main_v26 main_v26
  let main_v55 : FVec F S4096 .f32 := subf main_v53 main_v54
  let main_v56 : FVec F S4096 .f32 := mulf main_v18 main_v55
  let main_v57 : FVec F S4096 .f32 := mulf main_v28 main_v26
  let main_v58 : FVec F S4096 .f32 := mulf main_v24 main_v22
  let main_v59 : FVec F S4096 .f32 := subf main_v57 main_v58
  fn_part3 (F := F) main_arg1 main_arg3 main_v0 main_v10 main_v16 main_v20 main_v24 main_v26 main_v28 main_v52 main_v56 main_v59

def fn_part1 {F : FTy → Type} [FloatOps F] (main_arg1 : FVec F S4096x3 .f32) (main_arg3 : FVec F S4096x3 .f32) (main_arg4 : FVec F S4096x3x3 .f32) (main_v0 : FVec F S1x3 .f32) (main_v10 : IVec S_ 1) (main_v16 : IVec S_ 1) (main_v18 : FVec F S4096 .f32) : IVec S_ 1 :=
  let main_v19 : FVec F S4096x1x1 .f32 := (extractStridedSlice S4096x1x1 ![0, 1, 1] · slices_S4096x3x3_S4096x1x1_0_1_1) main_arg4
  let main_v20 : FVec F S4096 .f32 := shapeCast S4096 main_v19 shapeCasts_S4096x1x1_S4096
  let main_v21 : FVec F S4096x1x1 .f32 := (extractStridedSlice S4096x1x1 ![0, 2, 2] · slices_S4096x3x3_S4096x1x1_0_2_2) main_arg4
  let main_v22 : FVec F S4096 .f32 := shapeCast S4096 main_v21 shapeCasts_S4096x1x1_S4096
  let main_v23 : FVec F S4096x1x1 .f32 := (extractStridedSlice S4096x1x1 ![0, 0, 1] · slices_S4096x3x3_S4096x1x1_0_0_1) main_arg4
  let main_v24 : FVec F S4096 .f32 := shapeCast S4096 main_v23 shapeCasts_S4096x1x1_S4096
  let main_v25 : FVec F S4096x1x1 .f32 := (extractStridedSlice S4096x1x1 ![0, 1, 2] · slices_S4096x3x3_S4096x1x1_0_1_2) main_arg4
  let main_v26 : FVec F S4096 .f32 := shapeCast S4096 main_v25 shapeCasts_S4096x1x1_S4096
  let main_v27 : FVec F S4096x1x1 .f32 := (extractStridedSlice S4096x1x1 ![0, 0, 2] · slices_S4096x3x3_S4096x1x1_0_0_2) main_arg4
  let main_v28 : FVec F S4096 .f32 := shapeCast S4096 main_v27 shapeCasts_S4096x1x1_S4096
  let main_v29 : FVec F S4096 .f32 := Host.absf main_v18
  let main_cst_3 : FVec F S_ .f32 := constant S_ .f32 0x7F800000#32
  let main_v30 : FVec F S4096 .f32 := broadcastInDim S4096 ![] bcast_S_S4096 main_cst_3
  let main_v31 : IVec S4096 1 := cmpf .olt main_v29 main_v30
  let main_v32 : FVec F S4096 .f32 := Host.absf main_v20
  let main_cst_4 : FVec F S_ .f32 := constant S_ .f32 0x7F800000#32
  let main_v33 : FVec F S4096 .f32 := broadcastInDim S4096 ![] bcast_S_S4096 main_cst_4
  let main_v34 : IVec S4096 1 := cmpf .olt main_v32 main_v33
  let main_v35 : IVec S4096 1 := andi main_v31 main_v34
  let main_v36 : FVec F S4096 .f32 := Host.absf main_v22
  let main_cst_5 : FVec F S_ .f32 := constant S_ .f32 0x7F800000#32
  let main_v37 : FVec F S4096 .f32 := broadcastInDim S4096 ![] bcast_S_S4096 main_cst_5
  let main_v38 : IVec S4096 1 := cmpf .olt main_v36 main_v37
  let main_v39 : IVec S4096 1 := andi main_v35 main_v38
  fn_part2 (F := F) main_arg1 main_arg3 main_v0 main_v10 main_v16 main_v18 main_v20 main_v22 main_v24 main_v26 main_v28 main_v39

def fn {F : FTy → Type} [FloatOps F] (main_arg0 : FVec F S16384x3 .f32) (main_arg1 : FVec F S4096x3 .f32) (main_arg2 : FVec F S4096x16 .f32) (main_arg3 : FVec F S4096x3 .f32) (main_arg4 : FVec F S4096x3x3 .f32) (main_arg5 : FVec F S3 .f32) : IVec S_ 1 :=
  let main_v0 : FVec F S1x3 .f32 := broadcastInDim S1x3 ![1] bcast_S3_S1x3_1 main_arg5
  let main_v1 : FVec F S16384x3 .f32 := broadcastInDim S16384x3 ![0, 1] bcast_S1x3_S16384x3_0_1 main_v0
  let main_v2 : FVec F S16384x3 .f32 := subf main_arg0 main_v1
  let main_cst : FVec F S_ .f32 := constant S_ .f32 0x00000000#32
  let main_v3 : FVec F S16384x3 .f32 := broadcastInDim S16384x3 ![] bcast_S_S16384x3 main_cst
  let main_v4 : IVec S16384x3 1 := cmpf .oge main_v2 main_v3
  let main_v5 : FVec F S16384x3 .f32 := broadcastInDim S16384x3 ![0, 1] bcast_S1x3_S16384x3_0_1 main_v0
  let main_v6 : FVec F S16384x3 .f32 := subf main_arg0 main_v5
  let main_cst_0 : FVec F S_ .f32 := constant S_ .f32 0x3F800000#32
  let main_v7 : FVec F S16384x3 .f32 := broadcastInDim S16384x3 ![] bcast_S_S16384x3 main_cst_0
  let main_v8 : IVec S16384x3 1 := cmpf .olt main_v6 main_v7
  let main_v9 : IVec S16384x3 1 := andi main_v4 main_v8
  let main_c : IVec S_ 1 := constantI S_ 1 1#1
  let main_v10 : IVec S_ 1 := (fun x v => Host.reduce IntOp.andi x v reducesTo_S16384x3_S_d0_1 h_S_) main_v9 main_c
  let main_v11 : FVec F S4096x3 .f32 := broadcastInDim S4096x3 ![0, 1] bcast_S1x3_S4096x3_0_1 main_v0
  let main_v12 : FVec F S4096x3 .f32 := subf main_arg1 main_v11
  let main_v13 : FVec F S4096x3 .f32 := Host.absf main_v12
  let main_cst_1 : FVec F S_ .f32 := constant S_ .f32 0x4E000000#32
  let main_v14 : FVec F S4096x3 .f32 := broadcastInDim S4096x3 ![] bcast_S_S4096x3 main_cst_1
  let main_v15 : IVec S4096x3 1 := cmpf .ole main_v13 main_v14
  let main_c_2 : IVec S_ 1 := constantI S_ 1 1#1
  let main_v16 : IVec S_ 1 := (fun x v => Host.reduce IntOp.andi x v reducesTo_S4096x3_S_d0_1 h_S_) main_v15 main_c_2
  let main_v17 : FVec F S4096x1x1 .f32 := (extractStridedSlice S4096x1x1 ![0, 0, 0] · slices_S4096x3x3_S4096x1x1_0_0_0) main_arg4
  let main_v18 : FVec F S4096 .f32 := shapeCast S4096 main_v17 shapeCasts_S4096x1x1_S4096
  fn_part1 (F := F) main_arg1 main_arg3 main_arg4 main_v0 main_v10 main_v16 main_v18
-- ==== Kernel.lean ====
abbrev S16384x3 : Shape := ⟨2, ![16384, 3]⟩
abbrev S4096x3 : Shape := ⟨2, ![4096, 3]⟩
abbrev S4096x16 : Shape := ⟨2, ![4096, 16]⟩
abbrev S4096x3x3 : Shape := ⟨3, ![4096, 3, 3]⟩
abbrev S3 : Shape := ⟨1, ![3]⟩
abbrev S3x16384 : Shape := ⟨2, ![3, 16384]⟩
abbrev S3x4096 : Shape := ⟨2, ![3, 4096]⟩
abbrev S4096x9 : Shape := ⟨2, ![4096, 9]⟩
abbrev S9x4096 : Shape := ⟨2, ![9, 4096]⟩
abbrev S16384x16 : Shape := ⟨2, ![16384, 16]⟩
abbrev S3x8192 : Shape := ⟨2, ![3, 8192]⟩
abbrev S8192x16 : Shape := ⟨2, ![8192, 16]⟩
abbrev S48x4096 : Shape := ⟨2, ![48, 4096]⟩
abbrev S1x4096 : Shape := ⟨2, ![1, 4096]⟩
abbrev S1 : Shape := ⟨1, ![1]⟩
abbrev S16x4096 : Shape := ⟨2, ![16, 4096]⟩
abbrev S1x8192 : Shape := ⟨2, ![1, 8192]⟩
abbrev S16x8192 : Shape := ⟨2, ![16, 8192]⟩
abbrev S48x8192 : Shape := ⟨2, ![48, 8192]⟩
abbrev S8192x4096 : Shape := ⟨2, ![8192, 4096]⟩

abbrev nBuf : Space → Nat
  | .hbm => 12
  | .vmem => 10
  | .smem => 1
  | _ => 0

abbrev bufTy : (tb : Table) → Fin (tcTables nBuf tb) → BufTy
  | .hbm, ⟨0, _⟩ => ⟨S16384x3, .f32⟩
  | .hbm, ⟨1, _⟩ => ⟨S4096x3, .f32⟩
  | .hbm, ⟨2, _⟩ => ⟨S4096x16, .f32⟩
  | .hbm, ⟨3, _⟩ => ⟨S4096x3, .f32⟩
  | .hbm, ⟨4, _⟩ => ⟨S4096x3x3, .f32⟩
  | .hbm, ⟨5, _⟩ => ⟨S3, .f32⟩
  | .hbm, ⟨6, _⟩ => ⟨S3x16384, .f32⟩
  | .hbm, ⟨7, _⟩ => ⟨S3x4096, .f32⟩
  | .hbm, ⟨8, _⟩ => ⟨S4096x9, .f32⟩
  | .hbm, ⟨9, _⟩ => ⟨S9x4096, .f32⟩
  | .hbm, ⟨10, _⟩ => ⟨S3x4096, .f32⟩
  | .hbm, ⟨11, _⟩ => ⟨S16384x16, .f32⟩
  | .local _ .vmem, ⟨0, _⟩ => ⟨S3x8192, .f32⟩
  | .local _ .vmem, ⟨1, _⟩ => ⟨S3x8192, .f32⟩
  | .local _ .vmem, ⟨2, _⟩ => ⟨S3x4096, .f32⟩
  | .local _ .vmem, ⟨3, _⟩ => ⟨S9x4096, .f32⟩
  | .local _ .vmem, ⟨4, _⟩ => ⟨S3x4096, .f32⟩
  | .local _ .vmem, ⟨5, _⟩ => ⟨S4096x16, .f32⟩
  | .local _ .vmem, ⟨6, _⟩ => ⟨S8192x16, .f32⟩
  | .local _ .vmem, ⟨7, _⟩ => ⟨S8192x16, .f32⟩
  | .local _ .vmem, ⟨8, _⟩ => ⟨S48x4096, .bf16⟩
  | .local _ .vmem, ⟨9, _⟩ => ⟨S4096x16, .fp8e4m3⟩
  | .local _ .smem, ⟨0, _⟩ => ⟨S3, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "hidden" => some ⊥
  | "neg_half_log2e" => some ((-((2 * (Real.log 2))⁻¹) : ℝ) : EReal)
  | _ => none
-- ==== ReferenceIdeal.lean ====
abbrev S16384x3 : Shape := ⟨2, ![16384, 3]⟩
abbrev S4096x3 : Shape := ⟨2, ![4096, 3]⟩
abbrev S4096x16 : Shape := ⟨2, ![4096, 16]⟩
abbrev S4096x3x3 : Shape := ⟨3, ![4096, 3, 3]⟩
abbrev S3 : Shape := ⟨1, ![3]⟩
abbrev S1x3 : Shape := ⟨2, ![1, 3]⟩
abbrev S_ : Shape := ⟨0, ![]⟩
abbrev S4096 : Shape := ⟨1, ![4096]⟩
abbrev S4096x1x1 : Shape := ⟨3, ![4096, 1, 1]⟩
abbrev S4096x1 : Shape := ⟨2, ![4096, 1]⟩
abbrev S4096x1x3 : Shape := ⟨3, ![4096, 1, 3]⟩
abbrev S16384x1x3 : Shape := ⟨3, ![16384, 1, 3]⟩
abbrev S1x4096x3 : Shape := ⟨3, ![1, 4096, 3]⟩
abbrev S16384x4096x3 : Shape := ⟨3, ![16384, 4096, 3]⟩
abbrev S4096x3x16384 : Shape := ⟨3, ![4096, 3, 16384]⟩
abbrev S16384x4096 : Shape := ⟨2, ![16384, 4096]⟩
abbrev S1x4096x1 : Shape := ⟨3, ![1, 4096, 1]⟩
abbrev S16384x16 : Shape := ⟨2, ![16384, 16]⟩

abbrev nBuf : Space → Nat
  | .hbm => 137
  | .vmem => 0
  | .smem => 0
  | _ => 0

abbrev hbmTy0_0 (i : Nat) : BufTy := match i % 128 with
  | 0 => ⟨S16384x3, .f32⟩
  | 1 => ⟨S4096x3, .f32⟩
  | 2 => ⟨S4096x16, .f32⟩
  | 3 => ⟨S4096x3, .f32⟩
  | 4 => ⟨S4096x3x3, .f32⟩
  | 5 => ⟨S3, .f32⟩
  | 6 => ⟨S1x3, .f32⟩
  | 7 => ⟨S16384x3, .f32⟩
  | 8 => ⟨S16384x3, .f32⟩
  | 9 => ⟨S_, .f32⟩
  | 10 => ⟨S16384x3, .f32⟩
  | 11 => ⟨S16384x3, .f32⟩
  | 12 => ⟨S16384x3, .f32⟩
  | 13 => ⟨S16384x3, .i32⟩
  | 14 => ⟨S1x3, .f32⟩
  | 15 => ⟨S4096x3, .f32⟩
  | 16 => ⟨S4096x3, .f32⟩
  | 17 => ⟨S_, .f32⟩
  | 18 => ⟨S4096x3, .f32⟩
  | 19 => ⟨S4096x3, .f32⟩
  | 20 => ⟨S4096x3, .f32⟩
  | 21 => ⟨S4096x3, .i32⟩
  | 22 => ⟨S_, .f32⟩
  | 23 => ⟨S4096, .f32⟩
  | 24 => ⟨S_, .f32⟩
  | 25 => ⟨S4096, .f32⟩
  | 26 => ⟨S4096, .f32⟩
  | 27 => ⟨S_, .f32⟩
  | 28 => ⟨S4096, .f32⟩
  | 29 => ⟨S4096, .f32⟩
  | 30 => ⟨S4096, .f32⟩
  | 31 => ⟨S4096, .i32⟩
  | 32 => ⟨S4096x1x1, .f32⟩
  | 33 => ⟨S4096, .f32⟩
  | 34 => ⟨S4096x1x1, .f32⟩
  | 35 => ⟨S4096, .f32⟩
  | 36 => ⟨S4096x1x1, .f32⟩
  | 37 => ⟨S4096, .f32⟩
  | 38 => ⟨S4096x1x1, .f32⟩
  | 39 => ⟨S4096, .f32⟩
  | 40 => ⟨S4096x1x1, .f32⟩
  | 41 => ⟨S4096, .f32⟩
  | 42 => ⟨S4096x1x1, .f32⟩
  | 43 => ⟨S4096, .f32⟩
  | 44 => ⟨S4096, .f32⟩
  | 45 => ⟨S4096, .f32⟩
  | 46 => ⟨S4096, .f32⟩
  | 47 => ⟨S4096, .f32⟩
  | 48 => ⟨S4096, .f32⟩
  | 49 => ⟨S4096, .f32⟩
  | 50 => ⟨S4096, .f32⟩
  | 51 => ⟨S4096, .f32⟩
  | 52 => ⟨S4096, .f32⟩
  | 53 => ⟨S4096, .f32⟩
  | 54 => ⟨S4096, .f32⟩
  | 55 => ⟨S4096, .f32⟩
  | 56 => ⟨S4096, .f32⟩
  | 57 => ⟨S4096, .f32⟩
  | 58 => ⟨S4096, .f32⟩
  | 59 => ⟨S4096, .f32⟩
  | 60 => ⟨S4096, .f32⟩
  | 61 => ⟨S4096, .f32⟩
  | 62 => ⟨S4096, .f32⟩
  | 63 => ⟨S4096, .f32⟩
  | 64 => ⟨S4096, .f32⟩
  | 65 => ⟨S4096, .f32⟩
  | 66 => ⟨S4096, .f32⟩
  | 67 => ⟨S4096, .f32⟩
  | 68 => ⟨S4096, .f32⟩
  | 69 => ⟨S4096, .f32⟩
  | 70 => ⟨S4096x1, .f32⟩
  | 71 => ⟨S4096x1, .f32⟩
  | 72 => ⟨S4096x1, .f32⟩
  | 73 => ⟨S4096x3, .f32⟩
  | 74 => ⟨S4096, .f32⟩
  | 75 => ⟨S4096, .f32⟩
  | 76 => ⟨S4096, .f32⟩
  | 77 => ⟨S4096, .f32⟩
  | 78 => ⟨S4096, .f32⟩
  | 79 => ⟨S4096, .f32⟩
  | 80 => ⟨S4096, .f32⟩
  | 81 => ⟨S4096, .f32⟩
  | 82 => ⟨S4096, .f32⟩
  | 83 => ⟨S4096, .f32⟩
  | 84 => ⟨S4096, .f32⟩
  | 85 => ⟨S4096, .f32⟩
  | 86 => ⟨S4096x1, .f32⟩
  | 87 => ⟨S4096x1, .f32⟩
  | 88 => ⟨S4096x1, .f32⟩
  | 89 => ⟨S4096x3, .f32⟩
  | 90 => ⟨S4096, .f32⟩
  | 91 => ⟨S4096, .f32⟩
  | 92 => ⟨S4096, .f32⟩
  | 93 => ⟨S4096, .f32⟩
  | 94 => ⟨S4096, .f32⟩
  | 95 => ⟨S4096, .f32⟩
  | 96 => ⟨S4096, .f32⟩
  | 97 => ⟨S4096, .f32⟩
  | 98 => ⟨S4096, .f32⟩
  | 99 => ⟨S4096, .f32⟩
  | 100 => ⟨S4096, .f32⟩
  | 101 => ⟨S4096, .f32⟩
  | 102 => ⟨S4096x1, .f32⟩
  | 103 => ⟨S4096x1, .f32⟩
  | 104 => ⟨S4096x1, .f32⟩
  | 105 => ⟨S4096x3, .f32⟩
  | 106 => ⟨S4096x1x3, .f32⟩
  | 107 => ⟨S4096x1x3, .f32⟩
  | 108 => ⟨S4096x1x3, .f32⟩
  | 109 => ⟨S4096x3x3, .f32⟩
  | 110 => ⟨S16384x1x3, .f32⟩
  | 111 => ⟨S1x4096x3, .f32⟩
  | 112 => ⟨S16384x4096x3, .f32⟩
  | 113 => ⟨S16384x4096x3, .f32⟩
  | 114 => ⟨S16384x4096x3, .f32⟩
  | 115 => ⟨S4096x3x16384, .f32⟩
  | 116 => ⟨S16384x4096, .f32⟩
  | 117 => ⟨S_, .f32⟩
  | 118 => ⟨S16384x4096, .f32⟩
  | 119 => ⟨S16384x4096, .f32⟩
  | 120 => ⟨S16384x4096, .f32⟩
  | 121 => ⟨S16384x1x3, .i32⟩
  | 122 => ⟨S1x4096x3, .i32⟩
  | 123 => ⟨S16384x4096x3, .i32⟩
  | 124 => ⟨S16384x4096x3, .i32⟩
  | 125 => ⟨S16384x4096x3, .i32⟩
  | 126 => ⟨S16384x4096x3, .i32⟩
  | 127 => ⟨S1x4096x1, .i32⟩
  | _ => ⟨S16384x3, .f32⟩

abbrev hbmTy0_1 (i : Nat) : BufTy := match i % 128 with
  | 0 => ⟨S16384x4096x3, .i32⟩
  | 1 => ⟨S16384x4096x3, .i1⟩
  | 2 => ⟨S_, .i1⟩
  | 3 => ⟨S16384x4096, .i1⟩
  | 4 => ⟨S_, .f32⟩
  | 5 => ⟨S_, .f32⟩
  | 6 => ⟨S16384x4096, .f32⟩
  | 7 => ⟨S16384x4096, .f32⟩
  | 8 => ⟨S16384x16, .f32⟩
  | _ => ⟨S16384x3, .f32⟩

abbrev hbmTy (i : Nat) : BufTy := match i / 128 with
  | 0 => hbmTy0_0 i
  | 1 => hbmTy0_1 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_cst_4 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_c : Ref sig .tc := ⟨.hbm, 130, rfl⟩
abbrev main_v118 : Ref sig .tc := ⟨.hbm, 131, rfl⟩
abbrev main_cst_5 : Ref sig .tc := ⟨.hbm, 132, rfl⟩
abbrev main_call0_v0 : Ref sig .tc := ⟨.hbm, 133, rfl⟩
abbrev main_call0_v1 : Ref sig .tc := ⟨.hbm, 134, rfl⟩
abbrev main_v119 : Ref sig .tc := ⟨.hbm, 135, rfl⟩
abbrev main_v120 : Ref sig .tc := ⟨.hbm, 136, rfl⟩

abbrev nD : Nat := 1
abbrev τ : Topo := Topo.v7x

variable {F : FTy → Type} [FloatOps F]
-- ==== Proof.Runs.lean ====
/- The claims that compare no values: each program runs, leaves its arguments alone and leaves every semaphore counter at
   zero (read off the generated runs), and each named constant is the value its table gives it. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Splat

open Idealize.ShloMosaic Idealize.SL.Sem

/-- The kernel as printed runs and leaves its arguments alone. -/
theorem kernel_runs : Cert.quiescent_Kernel := fun m ρ _ => Cert.Kernel.Gen.frame m ρ

/-- The idealized kernel runs and leaves its arguments alone. -/
theorem kernelIdeal_runs : Cert.quiescent_KernelIdeal := fun m ρ _ => Cert.KernelIdeal.Gen.frame m ρ

/-- The same under the precondition, which it does not need. -/
theorem kernelIdeal_runs_in_range [Cert.Pre_in_range.Facts] : Cert.quiescent_KernelIdeal_pre_in_range :=
  fun m ρ _ => Cert.KernelIdeal.Gen.frame m ρ

/-- The reference runs and leaves its arguments alone; it has no semaphores. -/
theorem reference_runs : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition, which it does not need. -/
theorem reference_runs_in_range [Cert.Pre_in_range.Facts] : Cert.quiescent_ReferenceIdeal_pre_in_range :=
  fun m ρ _ => reference_runs m ρ trivial

/-- The two named constants are the values their table gives them: `-1/(2 log 2)` and minus infinity. -/
theorem constants : Cert.preserves_Kernel_KernelIdeal :=
  ⟨IdealRules.named_const.statement Cert.KernelIdeal.κ "neg_half_log2e" .f32 0xBF38AA3B#32
      ((-((2 * (Real.log 2))⁻¹) : ℝ) : EReal) rfl,
    IdealRules.named_const.statement Cert.KernelIdeal.κ "hidden" .f32 0xC6000000#32 ⊥ rfl⟩

end Cert.Splat

end
-- ==== Proof.Weight.lean ====
/- The weight of one Gaussian at one point, in the extended reals: the kernel's product of a feature row of the point with
   a coefficient row of the Gaussian, and the problem's `exp(-d Σ⁻¹ d / 2)` inside the reach of the Gaussian. -/
module

public import Idealize.ShloMosaic.PureOps.Ideal.Laws
public import Idealize.ShloMosaic.Lib.Pointwise

@[expose] public section

noncomputable section

namespace Cert.Splat

open Idealize.ShloMosaic

/-- What the program knows of one Gaussian: its mean, the six entries of its covariance, its three scales. -/
structure Blob where
  mean : Fin 3 → EReal
  xx : EReal
  yy : EReal
  zz : EReal
  xy : EReal
  yz : EReal
  xz : EReal
  scale : Fin 3 → EReal

/-- The index of the cell a coordinate lies in, cells being half a unit wide and counted from the origin `o`. -/
def cell (x o : EReal) : EReal := Ideal.liftRound Int.floor ((x - o) * 2)

/-- The absolute value as the programs compute it. -/
def size (x : EReal) : EReal := max x (-x)

/-- Zero for a condition that holds, minus infinity for one that does not. -/
def gate (P : Prop) [Decidable P] : EReal := if P then 0 else ⊥

open Classical in
/-- An open gate. -/
theorem gate_pos {P : Prop} [Decidable P] (h : P) : gate P = 0 := if_pos h

/-- A closed gate. -/
theorem gate_neg {P : Prop} [Decidable P] (h : ¬P) : gate P = ⊥ := if_neg h

namespace Blob

variable (b : Blob) (o : Fin 3 → EReal)

/-- How many cells the Gaussian reaches. -/
def radius : EReal := Ideal.liftRound Int.ceil (max (max (b.scale 0) (b.scale 1)) (b.scale 2) * 6)

/-- The cell of the mean along axis `i`. -/
def at' (i : Fin 3) : EReal := cell (b.mean i) (o i)

/-- The gate of cell 0 along axis `i`. -/
def gate0 (i : Fin 3) : EReal := gate (size (b.at' o i) ≤ b.radius)

/-- The gate of cell 1 along axis `i`. -/
def gate1 (i : Fin 3) : EReal := gate (size (1 - b.at' o i) ≤ b.radius)

/-- The determinant of the covariance, along its first row. -/
def det : EReal :=
  b.xx * (b.yy * b.zz - b.yz * b.yz) + b.xy * (b.xz * b.yz - b.xy * b.zz) + b.xz * (b.xy * b.yz - b.yy * b.xz)

/-- The common factor of the scaled inverse: the constant `-1/(2 log 2)` over the determinant. -/
def factor : EReal := Ideal.div ((-((2 * (Real.log 2))⁻¹) : ℝ) : EReal) b.det

/-- The xx entry of the scaled inverse. -/
def axx : EReal := (b.yy * b.zz - b.yz * b.yz) * b.factor
/-- The xy entry of the scaled inverse. -/
def axy : EReal := (b.xz * b.yz - b.xy * b.zz) * b.factor
/-- The xz entry of the scaled inverse. -/
def axz : EReal := (b.xy * b.yz - b.yy * b.xz) * b.factor
/-- The yy entry of the scaled inverse. -/
def ayy : EReal := (b.xx * b.zz - b.xz * b.xz) * b.factor
/-- The yz entry of the scaled inverse. -/
def ayz : EReal := (b.xy * b.xz - b.xx * b.yz) * b.factor
/-- The zz entry of the scaled inverse. -/
def azz : EReal := (b.xx * b.yy - b.xy * b.xy) * b.factor

/-- The scaled inverse applied to the mean, entry by entry. -/
def bx : EReal := b.axx * b.mean 0 + b.axy * b.mean 1 + b.axz * b.mean 2
/-- The y coordinate of the scaled inverse times the mean. -/
def by' : EReal := b.axy * b.mean 0 + b.ayy * b.mean 1 + b.ayz * b.mean 2
/-- The z coordinate of the scaled inverse times the mean. -/
def bz : EReal := b.axz * b.mean 0 + b.ayz * b.mean 1 + b.azz * b.mean 2

/-- The scaled quadratic form at the mean. -/
def quad : EReal := b.mean 0 * b.bx + b.mean 1 * b.by' + b.mean 2 * b.bz

/-- The sixteen coefficients of one Gaussian. -/
def coef : Fin 16 → EReal :=
  ![b.axx, b.ayy, b.azz, 2 * b.axy, 2 * b.ayz, 2 * b.axz, -2 * b.bx, -2 * b.by', -2 * b.bz, b.quad,
    b.gate0 o 0 + b.gate0 o 1 + b.gate0 o 2, b.gate1 o 0 - b.gate0 o 0, b.gate1 o 1 - b.gate0 o 1,
    b.gate1 o 2 - b.gate0 o 2, 0, 0]

end Blob

/-- The sixteen features of one point. -/
def feat (p o : Fin 3 → EReal) : Fin 16 → EReal :=
  ![p 0 * p 0, p 1 * p 1, p 2 * p 2, p 0 * p 1, p 1 * p 2, p 0 * p 2, p 0, p 1, p 2, 1, 1,
    cell (p 0) (o 0), cell (p 1) (o 1), cell (p 2) (o 2), 0, 0]

/-- The exponent the kernel forms: the features against the coefficients, and against the two (vanishing) remainders. -/
def exponent (p o : Fin 3 → EReal) (b : Blob) : EReal :=
  (∑ k, feat p o k * b.coef o k) + (∑ k, feat p o k * (b.coef o k - b.coef o k))
    + ∑ k, (feat p o k - feat p o k) * b.coef o k

/-- The point's cell is within the Gaussian's reach along axis `i`. -/
def Near (p o : Fin 3 → EReal) (b : Blob) (i : Fin 3) : Prop :=
  size (cell (p i) (o i) - b.at' o i) ≤ b.radius

namespace Blob

variable (b : Blob)

/-- The covariance as a matrix. -/
def sigma : Fin 3 → Fin 3 → EReal := ![![b.xx, b.xy, b.xz], ![b.xy, b.yy, b.yz], ![b.xz, b.yz, b.zz]]

/-- The cofactor at row `i`, column `j`. -/
def cofactor (i j : Fin 3) : EReal :=
  b.sigma (i + 1) (j + 1) * b.sigma (i + 2) (j + 2) - b.sigma (i + 1) (j + 2) * b.sigma (i + 2) (j + 1)

/-- The determinant by the first row's cofactors. -/
def determinant : EReal :=
  b.sigma 0 0 * b.cofactor 0 0 + b.sigma 0 1 * b.cofactor 0 1 + b.sigma 0 2 * b.cofactor 0 2

/-- The inverse matrix: the transposed cofactors over the determinant. -/
def inverse (i j : Fin 3) : EReal := Ideal.div (b.cofactor j i) b.determinant

/-- The squared Mahalanobis distance of the point `p`. -/
def maha (p : Fin 3 → EReal) : EReal :=
  ∑ j : Fin 3, (p j - b.mean j) * ∑ k : Fin 3, b.inverse k j * (p k - b.mean k)

end Blob

/-- What the precondition gives of one point and one Gaussian. -/
structure InRange (p o : Fin 3 → EReal) (b : Blob) : Prop where
  near : ∀ i, 0 ≤ p i - o i ∧ p i - o i < 1
  bound : ∀ i, size (b.mean i - o i) ≤ ((536870912 : ℝ) : EReal)
  finite : size b.xx < ⊤ ∧ size b.yy < ⊤ ∧ size b.zz < ⊤ ∧ size b.xy < ⊤ ∧ size b.yz < ⊤ ∧ size b.xz < ⊤
  regular : b.det ≠ 0
  reach : ∀ i, size (b.at' o i) ≤ b.radius ∨ b.radius < size (1 - b.at' o i)

/-! ### Everything that is finite is real -/

/-- A finite extended real is a real. -/
theorem real_of_size_lt {x : EReal} (h : size x < ⊤) : ∃ r : ℝ, x = r := by
  induction x with
  | bot => simp [size] at h
  | top => simp [size] at h
  | coe r => exact ⟨r, rfl⟩

/-- A difference in `[0, 1)` is one of two reals. -/
theorem real_of_near {x o : EReal} (h : 0 ≤ x - o ∧ x - o < 1) : ∃ r s : ℝ, x = r ∧ o = s ∧ 0 ≤ r - s ∧ r - s < 1 := by
  obtain ⟨h0, h1⟩ := h
  induction x with
  | bot => simp [sub_eq_add_neg] at h0
  | top =>
    induction o with
    | bot => simp [sub_eq_add_neg] at h1
    | top => simp [sub_eq_add_neg] at h0
    | coe s => simp [EReal.top_sub_coe] at h1
  | coe r =>
    induction o with
    | bot => simp [EReal.coe_sub_bot] at h1
    | top => simp [sub_eq_add_neg] at h0
    | coe s => exact ⟨r, s, rfl, rfl, by exact_mod_cast h0, by exact_mod_cast h1⟩

/-- A bounded distance from a real origin makes the coordinate a real, at that distance. -/
theorem real_of_bound {x : EReal} {s B : ℝ} (h : size (x - s) ≤ (B : EReal)) : ∃ r : ℝ, x = r ∧ |r - s| ≤ B := by
  induction x with
  | bot => simp [size, sub_eq_add_neg] at h
  | top => simp [size, EReal.top_sub_coe] at h
  | coe r =>
    refine ⟨r, rfl, ?_⟩
    have h' := max_le_iff.mp h
    rw [abs_le]
    have h1 : r - s ≤ B := by exact_mod_cast h'.1
    have h2 : -(r - s) ≤ B := by exact_mod_cast h'.2
    constructor <;> linarith

/-- The size of a real is its absolute value. -/
theorem size_coe (r : ℝ) : size (r : EReal) = ((|r| : ℝ) : EReal) := by
  rw [size, abs_eq_max_neg]; push_cast; rfl

/-- The cell of a real coordinate. -/
theorem cell_coe (x s : ℝ) : cell (x : EReal) (s : EReal) = ((⌊(x - s) * 2⌋ : ℝ) : EReal) := by
  have : ((x : EReal) - s) * 2 = (((x - s) * 2 : ℝ) : EReal) := by push_cast; rfl
  rw [cell, this]; rfl

/-- A point less than a unit from the origin lies in cell 0 or cell 1. -/
theorem cell_near {x o : EReal} (h : 0 ≤ x - o ∧ x - o < 1) : cell x o = 0 ∨ cell x o = 1 := by
  obtain ⟨r, s, rfl, rfl, h0, h1⟩ := real_of_near h
  rw [cell_coe]
  have a : 0 ≤ ⌊(r - s) * 2⌋ := Int.floor_nonneg.mpr (by linarith)
  have b : ⌊(r - s) * 2⌋ < 2 := Int.floor_lt.mpr (by push_cast; linarith)
  have : ⌊(r - s) * 2⌋ = 0 ∨ ⌊(r - s) * 2⌋ = 1 := by omega
  rcases this with e | e <;> rw [e] <;> simp

/-! ### The gates -/

/-- One axis within reach: the gate of cell 0 is open, and the step between the two gates adds nothing. -/
theorem gate_open {c k r : EReal} (hc : c = 0 ∨ c = 1) (hr : size k ≤ r ∨ r < size (1 - k)) (hv : size (c - k) ≤ r) :
    gate (size k ≤ r) = 0 ∧ c * (gate (size (1 - k) ≤ r) - gate (size k ≤ r)) = 0 ∧
      c * ((gate (size (1 - k) ≤ r) - gate (size k ≤ r)) - (gate (size (1 - k) ≤ r) - gate (size k ≤ r))) = 0 := by
  rcases hc with rfl | rfl
  · have hk : size (0 - k) = size k := by simp [size, max_comm]
    rw [hk] at hv
    exact ⟨gate_pos hv, zero_mul _, zero_mul _⟩
  · have hk : size k ≤ r := hr.resolve_right (not_lt.mpr hv)
    rw [gate_pos hk, gate_pos hv]
    simp

/-- One axis out of reach: the two gates together give minus infinity. -/
theorem gate_shut {c k r : EReal} (hc : c = 0 ∨ c = 1) (hv : ¬size (c - k) ≤ r) :
    gate (size k ≤ r) + c * (gate (size (1 - k) ≤ r) - gate (size k ≤ r)) = ⊥ := by
  rcases hc with rfl | rfl
  · have hk : size (0 - k) = size k := by simp [size, max_comm]
    rw [hk] at hv
    rw [gate_neg hv]; simp
  · rw [gate_neg hv]; simp [sub_eq_add_neg]

/-! ### The exponent -/

/-- The quadratic part of the exponent. -/
def form (p : Fin 3 → EReal) (b : Blob) : EReal :=
  p 0 * p 0 * b.axx + p 1 * p 1 * b.ayy + p 2 * p 2 * b.azz + p 0 * p 1 * (2 * b.axy) + p 1 * p 2 * (2 * b.ayz)
    + p 0 * p 2 * (2 * b.axz) + p 0 * (-2 * b.bx) + p 1 * (-2 * b.by') + p 2 * (-2 * b.bz) + b.quad

/-- The gates' part of the exponent along axis `i`. -/
def gates (p o : Fin 3 → EReal) (b : Blob) (i : Fin 3) : EReal :=
  b.gate0 o i + cell (p i) (o i) * (b.gate1 o i - b.gate0 o i)

/-- The features against the coefficients are the quadratic part and the gates of the three axes. -/
theorem sum_coef (p o : Fin 3 → EReal) (b : Blob) :
    (∑ k, feat p o k * b.coef o k) = form p b + (gates p o b 0 + gates p o b 1 + gates p o b 2) := by
  simp only [Fin.sum_univ_succ, Fin.sum_univ_zero, feat, Blob.coef, Matrix.cons_val_zero, Matrix.cons_val_succ, form,
    gates, one_mul, mul_zero, add_zero]
  abel

/-- An axis out of reach makes the whole exponent minus infinity. -/
theorem exponent_far {p o : Fin 3 → EReal} {b : Blob} (h : ∀ i, 0 ≤ p i - o i ∧ p i - o i < 1)
    (hv : ¬∀ i, Near p o b i) : exponent p o b = ⊥ := by
  push Not at hv
  obtain ⟨i, hi⟩ := hv
  have hg : gates p o b i = ⊥ := gate_shut (cell_near (h i)) hi
  rw [exponent, sum_coef]
  fin_cases i <;> simp only [Fin.zero_eta, Fin.mk_one, Fin.reduceFinMk] at hg <;> rw [hg] <;> simp

/-- The difference of a real with itself vanishes. -/
theorem coe_sub_self (r : ℝ) : (r : EReal) - r = 0 := by
  rw [← EReal.coe_sub, sub_self, EReal.coe_zero]

/-- A cell index of a point in range is a real. -/
theorem cell_sub_self {x o : EReal} (h : 0 ≤ x - o ∧ x - o < 1) : cell x o - cell x o = 0 := by
  rcases cell_near h with e | e <;> rw [e]
  · exact sub_zero 0
  · exact coe_sub_self 1

/-- The factor, the scaled inverse and the derived coefficients over real data. -/
structure RealBlob (b : Blob) where
  X : ℝ
  Y : ℝ
  Z : ℝ
  U : ℝ
  V : ℝ
  W : ℝ
  M : Fin 3 → ℝ
  hX : b.xx = X
  hY : b.yy = Y
  hZ : b.zz = Z
  hU : b.xy = U
  hV : b.yz = V
  hW : b.xz = W
  hM : ∀ i, b.mean i = M i
  reg : X * (Y * Z - V * V) + U * (W * V - U * Z) + W * (U * V - Y * W) ≠ 0

/-- The data of a Gaussian in range are reals, with a determinant that is not zero. -/
theorem InRange.real {p o : Fin 3 → EReal} {b : Blob} (h : InRange p o b) : Nonempty (RealBlob b) := by
  obtain ⟨hx, hy, hz, hu, hv, hw⟩ := h.finite
  obtain ⟨X, hX⟩ := real_of_size_lt hx
  obtain ⟨Y, hY⟩ := real_of_size_lt hy
  obtain ⟨Z, hZ⟩ := real_of_size_lt hz
  obtain ⟨U, hU⟩ := real_of_size_lt hu
  obtain ⟨V, hV⟩ := real_of_size_lt hv
  obtain ⟨W, hW⟩ := real_of_size_lt hw
  have hm : ∀ i, ∃ r : ℝ, b.mean i = r := fun i => by
    obtain ⟨r, s, _, hs, _, _⟩ := real_of_near (h.near i)
    have hb := h.bound i
    rw [hs] at hb
    obtain ⟨q, hq, _⟩ := real_of_bound hb
    exact ⟨q, hq⟩
  choose M hM using hm
  refine ⟨⟨X, Y, Z, U, V, W, M, hX, hY, hZ, hU, hV, hW, hM, fun hD => h.regular ?_⟩⟩
  rw [Blob.det, hX, hY, hZ, hU, hV, hW]
  exact_mod_cast hD

namespace RealBlob

variable {b : Blob} (R : RealBlob b)

/-- The real determinant. -/
def D : ℝ := R.X * (R.Y * R.Z - R.V * R.V) + R.U * (R.W * R.V - R.U * R.Z) + R.W * (R.U * R.V - R.Y * R.W)

/-- The determinant is not zero. -/
theorem det_ne : R.D ≠ 0 := R.reg

/-- The real factor. -/
def K : ℝ := -((2 * (Real.log 2))⁻¹) * (1 / R.D)

/-- The factor on the inverse is real. -/
theorem factor : b.factor = R.K := by
  have hd : b.det = (R.D : EReal) := by
    rw [Blob.det, R.hX, R.hY, R.hZ, R.hU, R.hV, R.hW, D]; push_cast; rfl
  rw [Blob.factor, hd, Ideal.div_coe R.det_ne, K, EReal.coe_mul]

/-- Entry (0, 0) of the scaled inverse, over the reals. -/
def A00 : ℝ := (R.Y * R.Z - R.V * R.V) * R.K
/-- Entry (0, 1) of the scaled inverse, over the reals. -/
def A01 : ℝ := (R.W * R.V - R.U * R.Z) * R.K
/-- Entry (0, 2) of the scaled inverse, over the reals. -/
def A02 : ℝ := (R.U * R.V - R.Y * R.W) * R.K
/-- Entry (1, 1) of the scaled inverse, over the reals. -/
def A11 : ℝ := (R.X * R.Z - R.W * R.W) * R.K
/-- Entry (1, 2) of the scaled inverse, over the reals. -/
def A12 : ℝ := (R.U * R.W - R.X * R.V) * R.K
/-- Entry (2, 2) of the scaled inverse, over the reals. -/
def A22 : ℝ := (R.X * R.Y - R.U * R.U) * R.K

/-- The xx entry of the scaled inverse is real. -/
theorem axx : b.axx = R.A00 := by rw [Blob.axx, R.factor, R.hY, R.hZ, R.hV, A00]; push_cast; rfl
/-- The xy entry of the scaled inverse is real. -/
theorem axy : b.axy = R.A01 := by rw [Blob.axy, R.factor, R.hU, R.hW, R.hZ, R.hV, A01]; push_cast; rfl
/-- The xz entry of the scaled inverse is real. -/
theorem axz : b.axz = R.A02 := by rw [Blob.axz, R.factor, R.hU, R.hW, R.hY, R.hV, A02]; push_cast; rfl
/-- The yy entry of the scaled inverse is real. -/
theorem ayy : b.ayy = R.A11 := by rw [Blob.ayy, R.factor, R.hX, R.hZ, R.hW, A11]; push_cast; rfl
/-- The yz entry of the scaled inverse is real. -/
theorem ayz : b.ayz = R.A12 := by rw [Blob.ayz, R.factor, R.hU, R.hW, R.hX, R.hV, A12]; push_cast; rfl
/-- The zz entry of the scaled inverse is real. -/
theorem azz : b.azz = R.A22 := by rw [Blob.azz, R.factor, R.hX, R.hY, R.hU, A22]; push_cast; rfl

/-- Coordinate 0 of the scaled inverse times the mean, over the reals. -/
def B0 : ℝ := R.A00 * R.M 0 + R.A01 * R.M 1 + R.A02 * R.M 2
/-- Coordinate 1 of the scaled inverse times the mean, over the reals. -/
def B1 : ℝ := R.A01 * R.M 0 + R.A11 * R.M 1 + R.A12 * R.M 2
/-- Coordinate 2 of the scaled inverse times the mean, over the reals. -/
def B2 : ℝ := R.A02 * R.M 0 + R.A12 * R.M 1 + R.A22 * R.M 2
/-- The scaled quadratic form at the mean, over the reals. -/
def Q : ℝ := R.M 0 * R.B0 + R.M 1 * R.B1 + R.M 2 * R.B2

/-- The x coordinate of the scaled inverse times the mean is real. -/
theorem bx : b.bx = R.B0 := by rw [Blob.bx, R.axx, R.axy, R.axz, R.hM, R.hM, R.hM, B0]; push_cast; rfl
/-- The y coordinate of the scaled inverse times the mean is real. -/
theorem by' : b.by' = R.B1 := by rw [Blob.by', R.axy, R.ayy, R.ayz, R.hM, R.hM, R.hM, B1]; push_cast; rfl
/-- The z coordinate of the scaled inverse times the mean is real. -/
theorem bz : b.bz = R.B2 := by rw [Blob.bz, R.axz, R.ayz, R.azz, R.hM, R.hM, R.hM, B2]; push_cast; rfl
/-- The scaled quadratic form at the mean is real. -/
theorem quad : b.quad = R.Q := by rw [Blob.quad, R.bx, R.by', R.bz, R.hM, R.hM, R.hM, Q]; push_cast; rfl

/-- Two, as a real. -/
theorem two : (2 : EReal) = ((2 : ℝ) : EReal) := rfl

include R in
/-- The ten coefficients of the quadratic part are reals. -/
theorem coef_sub_self (o : Fin 3 → EReal) (k : Fin 10) :
    b.coef o (k.castLE (by decide)) - b.coef o (k.castLE (by decide)) = 0 := by
  fin_cases k <;> simp only [Blob.coef, Fin.castLE, Fin.zero_eta, Fin.mk_one, Fin.reduceFinMk, Matrix.cons_val, R.axx, R.ayy, R.azz, R.axy, R.ayz, R.axz, R.bx, R.by', R.bz, R.quad, two, ← EReal.coe_neg,
    ← EReal.coe_mul, coe_sub_self]

/-- The quadratic part at a real point. -/
theorem form {p : Fin 3 → EReal} {P : Fin 3 → ℝ} (hP : ∀ i, p i = P i) : form p b =
    ((P 0 * P 0 * R.A00 + P 1 * P 1 * R.A11 + P 2 * P 2 * R.A22 + P 0 * P 1 * (2 * R.A01) + P 1 * P 2 * (2 * R.A12)
      + P 0 * P 2 * (2 * R.A02) + P 0 * (-2 * R.B0) + P 1 * (-2 * R.B1) + P 2 * (-2 * R.B2) + R.Q : ℝ) : EReal) := by
  rw [Cert.Splat.form, R.axx, R.ayy, R.azz, R.axy, R.ayz, R.axz, R.bx, R.by', R.bz, R.quad, hP, hP, hP, two]
  norm_cast

/-- The squared distance at a real point. -/
theorem maha {p : Fin 3 → EReal} {P : Fin 3 → ℝ} (hP : ∀ i, p i = P i) : b.maha p =
    (((1 / R.D) * ((P 0 - R.M 0) * ((R.Y * R.Z - R.V * R.V) * (P 0 - R.M 0) + (R.W * R.V - R.U * R.Z) * (P 1 - R.M 1)
        + (R.U * R.V - R.Y * R.W) * (P 2 - R.M 2))
      + (P 1 - R.M 1) * ((R.W * R.V - R.U * R.Z) * (P 0 - R.M 0) + (R.X * R.Z - R.W * R.W) * (P 1 - R.M 1)
        + (R.U * R.W - R.X * R.V) * (P 2 - R.M 2))
      + (P 2 - R.M 2) * ((R.U * R.V - R.Y * R.W) * (P 0 - R.M 0) + (R.U * R.W - R.X * R.V) * (P 1 - R.M 1)
        + (R.X * R.Y - R.U * R.U) * (P 2 - R.M 2))) : ℝ) : EReal) := by
  have hd : b.determinant = (R.D : EReal) := by
    simp only [Blob.determinant, Blob.cofactor, Blob.sigma, Matrix.cons_val, Fin.reduceAdd, zero_add, R.hX, R.hY, R.hZ, R.hU, R.hV, R.hW,
      ← EReal.coe_mul, ← EReal.coe_sub, ← EReal.coe_add, D, Fin.isValue]
    congr 1; ring
  simp only [Blob.maha, Blob.inverse, hd, Ideal.div_coe R.det_ne, Fin.sum_univ_three, Blob.cofactor, Blob.sigma, Fin.isValue, Fin.reduceAdd, zero_add, Matrix.cons_val, R.hX, R.hY, R.hZ, R.hU, R.hV, R.hW, R.hM, hP,
    ← EReal.coe_mul, ← EReal.coe_sub, ← EReal.coe_add]
  congr 1; ring

end RealBlob

/-- Within reach on every axis the exponent is the quadratic part. -/
theorem exponent_near {p o : Fin 3 → EReal} {b : Blob} (h : InRange p o b) (hv : ∀ i, Near p o b i) :
    exponent p o b = form p b := by
  obtain ⟨R⟩ := h.real
  have g := fun i => gate_open (cell_near (h.near i)) (h.reach i) (hv i)
  have g0 : ∀ i, b.gate0 o i = 0 := fun i => (g i).1
  have g1 : ∀ i, cell (p i) (o i) * (b.gate1 o i - b.gate0 o i) = 0 := fun i => (g i).2.1
  have g2 : ∀ i, cell (p i) (o i) * ((b.gate1 o i - b.gate0 o i) - (b.gate1 o i - b.gate0 o i)) = 0 := fun i => (g i).2.2
  have s1 : (∑ k, feat p o k * (b.coef o k - b.coef o k)) = 0 := by
    refine Finset.sum_eq_zero fun k _ => ?_
    have hk := R.coef_sub_self o
    by_cases hlt : k.val < 10
    · rw [show k = (⟨k.val, hlt⟩ : Fin 10).castLE (by decide) from rfl, hk, mul_zero]
    · have : k = 10 ∨ k = 11 ∨ k = 12 ∨ k = 13 ∨ k = 14 ∨ k = 15 := by omega
      rcases this with rfl | rfl | rfl | rfl | rfl | rfl
      · simp [feat, Blob.coef, g0]
      · exact g2 0
      · exact g2 1
      · exact g2 2
      · exact zero_mul _
      · exact zero_mul _
  have s2 : (∑ k, (feat p o k - feat p o k) * b.coef o k) = 0 := by
    refine Finset.sum_eq_zero fun k _ => ?_
    choose P S hP hS _ _ using fun i => real_of_near (h.near i)
    have hf : feat p o k - feat p o k = 0 := by
      fin_cases k <;> simp only [feat, Fin.zero_eta, Fin.mk_one, Fin.reduceFinMk, Matrix.cons_val, cell_sub_self (h.near _)]
        <;> first | simp only [hP, ← EReal.coe_mul, coe_sub_self] | exact coe_sub_self 1 | exact sub_zero _
    rw [hf, zero_mul]
  rw [exponent, s1, s2, sum_coef, gates, gates, gates, g1, g1, g1, g0, g0, g0]
  simp

/-- THE WEIGHTS AGREE: the power of two of the kernel's exponent is the exponential of minus half the squared distance
    when the point's cell is within reach on every axis, and zero otherwise. -/
theorem weight_eq {p o : Fin 3 → EReal} {b : Blob} (h : InRange p o b) [Decidable (∀ i, Near p o b i)] :
    Ideal.exp2 (exponent p o b) =
      if ∀ i, Near p o b i then Ideal.exp (((-(1 / 2) : ℝ) : EReal) * b.maha p) else 0 := by
  split_ifs with hv
  · obtain ⟨R⟩ := h.real
    choose P S hP hS _ _ using fun i => real_of_near (h.near i)
    rw [exponent_near h hv, R.form hP, R.maha hP, Ideal.exp2_coe, ← EReal.coe_mul, Ideal.exp_coe]
    congr 1
    rw [Real.rpow_eq_pow, Real.rpow_def_of_pos (by norm_num)]
    congr 1
    have hl : Real.log 2 ≠ 0 := (Real.log_pos (by norm_num)).ne'
    have hK : Real.log 2 * R.K = -(1 / 2) * (1 / R.D) := by
      rw [RealBlob.K]; field_simp
    simp only [RealBlob.Q, RealBlob.B0, RealBlob.B1, RealBlob.B2, RealBlob.A00, RealBlob.A01, RealBlob.A02,
      RealBlob.A11, RealBlob.A12, RealBlob.A22]
    generalize R.K = k at hK ⊢
    generalize 1 / R.D = d at hK ⊢
    have hd : d = -2 * (Real.log 2 * k) := by rw [hK]; ring
    rw [hd]
    ring
  · rw [exponent_far h.near hv]; rfl

end Cert.Splat

end
-- ==== Proof.Consts.lean ====
/- The values of the float constants the two programs and the precondition print. -/
module

public import Idealize.ShloMosaic.PureOps.Ideal.Laws

@[expose] public section

noncomputable section

namespace Cert.Splat

open Idealize.ShloMosaic

/-- The word `one` as a number. -/
theorem bits_one : Ideal.ofBits .f32 0x3F800000#32 = 1 := by
  simp [Ideal.ofBits, Ideal.ieee, -EReal.coe_mul]; norm_num

/-- The word `two` as a number. -/
theorem bits_two : Ideal.ofBits .f32 0x40000000#32 = 2 := by
  simp [Ideal.ofBits, Ideal.ieee, -EReal.coe_mul]; norm_num; rfl

/-- The word `neg_two` as a number. -/
theorem bits_neg_two : Ideal.ofBits .f32 0xC0000000#32 = -2 := by
  simp [Ideal.ofBits, Ideal.ieee, -EReal.coe_mul]; norm_num; rfl

/-- The word `three` as a number. -/
theorem bits_three : Ideal.ofBits .f32 0x40400000#32 = ((3 : ℝ) : EReal) := by
  simp [Ideal.ofBits, Ideal.ieee, -EReal.coe_mul]; norm_num

/-- The word `six` as a number. -/
theorem bits_six : Ideal.ofBits .f32 0x40C00000#32 = 6 := by
  simp [Ideal.ofBits, Ideal.ieee, -EReal.coe_mul]; norm_num; rfl

/-- The word `half` as a number. -/
theorem bits_half : Ideal.ofBits .f32 0x3F000000#32 = ((1 / 2 : ℝ) : EReal) := by
  simp [Ideal.ofBits, Ideal.ieee, -EReal.coe_mul]; norm_num

/-- The word `neg_half` as a number. -/
theorem bits_neg_half : Ideal.ofBits .f32 0xBF000000#32 = ((-(1 / 2) : ℝ) : EReal) := by
  simp [Ideal.ofBits, Ideal.ieee, -EReal.coe_mul]; norm_num

/-- The word of `2^29`. -/
theorem bits_reach : Ideal.ofBits .f32 0x4E000000#32 = ((536870912 : ℝ) : EReal) := by
  simp [Ideal.ofBits, Ideal.ieee, -EReal.coe_mul]; norm_num

/-- The word of minus infinity. -/
theorem bits_bot : Ideal.ofBits .f32 0xFF800000#32 = ⊥ := by
  simp [Ideal.ofBits, Ideal.ieee]

/-- The word of plus infinity. -/
theorem bits_top : Ideal.ofBits .f32 0x7F800000#32 = ⊤ := by
  simp [Ideal.ofBits, Ideal.ieee]

end Cert.Splat

end
-- ==== Proof.Mask.lean ====
/- The integer mask of the reference: what the comparison of cells as 32-bit integers says, and the folds over the axes. -/
module

public import proofs.«01_k».proof.Proof.Weight

@[expose] public section

noncomputable section

namespace Cert.Splat

open Idealize.ShloMosaic

/-- A conjunction of bits is set exactly when each bit is. -/
theorem and_fold {ι : Type*} (s : Finset ι) (f : ι → BitVec 1) :
    s.fold IntOp.andi 1#1 f = 1#1 ↔ ∀ x ∈ s, f x = 1#1 := by
  classical
  have h2 : ∀ a b : BitVec 1, IntOp.andi a b = 1#1 ↔ a = 1#1 ∧ b = 1#1 := by decide
  induction s using Finset.induction_on with
  | empty => simp
  | insert a s ha ih => rw [Finset.fold_insert ha, h2, Finset.forall_mem_insert]; exact and_congr Iff.rfl ih

/-- The largest of three, from minus infinity. -/
theorem max_fold (f : Fin 3 → EReal) : Finset.univ.fold max ⊥ f = max (max (f 0) (f 1)) (f 2) := by
  rw [show (Finset.univ : Finset (Fin 3)) = {0, 1, 2} from rfl, Finset.fold_insert (by decide), Finset.fold_insert (by decide),
    Finset.fold_singleton, max_bot_right, max_assoc]

/-- An integer that fits a 32-bit word is read back from it. -/
theorem toInt_small (n : ℤ) (h0 : -2147483648 ≤ n) (h1 : n ≤ 2147483647) : (BitVec.ofInt 32 n).toInt = n := by
  rw [BitVec.toInt_ofInt]
  exact Int.bmod_eq_of_le (by norm_num; omega) (by norm_num; omega)

/-- A whole number converts to the integer nearest to it in range. -/
theorem fptosi_int (n : ℤ) :
    Ideal.fptosi 32 ((n : ℝ) : EReal) = BitVec.ofInt 32 (max (-2147483648) (min 2147483647 n)) := by
  rw [Ideal.fptosi, Ideal.toIntClamped_coe, Int.floor_intCast, Int.ceil_intCast, ite_self]
  norm_num

/-- An integer that fits a 32-bit word is converted to it exactly. -/
theorem fptosi_small (n : ℤ) (h0 : -2147483648 ≤ n) (h1 : n ≤ 2147483647) :
    Ideal.fptosi 32 ((n : ℝ) : EReal) = BitVec.ofInt 32 n := by
  rw [fptosi_int, min_eq_right h1, max_eq_right h0]

/-- The absolute value of a word other than the least one. -/
theorem absi_toInt (x : BitVec 32) (h : -2147483648 < x.toInt) : (IntOp.absi x).toInt = |x.toInt| := by
  unfold IntOp.absi
  rw [BitVec.msb_eq_toInt]
  by_cases hx : x.toInt < 0
  · rw [if_pos (decide_eq_true hx), abs_of_neg hx, BitVec.toInt_neg]
    have := BitVec.toInt_lt (x := x)
    exact Int.bmod_eq_of_le (by norm_num; omega) (by norm_num; omega)
  · rw [if_neg (by simpa using hx), abs_of_nonneg (by omega)]

/-- The comparison of the cells as integers is the comparison of the cells. -/
theorem mask_iff (c k : ℤ) (hc : c = 0 ∨ c = 1) (hk : |k| ≤ 1073741824) (x : EReal) :
    IntOp.cmpi .sle (IntOp.absi (IntOp.subi (Ideal.fptosi 32 ((c : ℝ) : EReal)) (Ideal.fptosi 32 ((k : ℝ) : EReal))))
      (Ideal.fptosi 32 (Ideal.liftRound Int.ceil x)) = 1#1
    ↔ size (((c : ℝ) : EReal) - ((k : ℝ) : EReal)) ≤ Ideal.liftRound Int.ceil x := by
  obtain ⟨k0, k1⟩ := abs_le.mp hk
  have hs : (IntOp.absi (IntOp.subi (Ideal.fptosi 32 ((c : ℝ) : EReal)) (Ideal.fptosi 32 ((k : ℝ) : EReal)))).toInt = |c - k| := by
    rw [fptosi_small c (by omega) (by omega), fptosi_small k (by omega) (by omega)]
    have e : (IntOp.subi (BitVec.ofInt 32 c) (BitVec.ofInt 32 k)).toInt = c - k := by
      unfold IntOp.subi
      rw [BitVec.toInt_sub, toInt_small c (by omega) (by omega), toInt_small k (by omega) (by omega)]
      exact Int.bmod_eq_of_le (by norm_num; omega) (by norm_num; omega)
    rw [absi_toInt _ (by rw [e]; omega), e]
  have hz : size (((c : ℝ) : EReal) - ((k : ℝ) : EReal)) = ((|c - k| : ℤ) : ℝ) := by
    rw [← EReal.coe_sub, size_coe]
    push_cast
    rfl
  have hd : 0 ≤ |c - k| ∧ |c - k| ≤ 1073741825 := ⟨abs_nonneg _, abs_le.mpr (by omega)⟩
  have hcmp : ∀ y : BitVec 32, IntOp.cmpi .sle (IntOp.absi (IntOp.subi (Ideal.fptosi 32 ((c : ℝ) : EReal)) (Ideal.fptosi 32 ((k : ℝ) : EReal)))) y = 1#1
      ↔ |c - k| ≤ y.toInt := by
    intro y
    rw [← hs, ← BitVec.sle_iff_toInt_le]
    unfold IntOp.cmpi
    cases h : BitVec.sle (IntOp.absi (IntOp.subi (Ideal.fptosi 32 ((c : ℝ) : EReal)) (Ideal.fptosi 32 ((k : ℝ) : EReal)))) y <;> simp [h]
  rw [hcmp, hz]
  induction x with
  | bot =>
    rw [Ideal.liftRound_bot, Ideal.fptosi, Ideal.toIntClamped_bot]
    have e : (BitVec.ofInt 32 (-(2 ^ (32 - 1) : ℕ))).toInt = -2147483648 := by decide
    exact iff_of_false (by rw [e]; omega) (not_le.mpr (EReal.bot_lt_coe _))
  | top =>
    rw [Ideal.liftRound_top, Ideal.fptosi, Ideal.toIntClamped_top]
    have e : (BitVec.ofInt 32 ((2 ^ (32 - 1) : ℕ) - 1)).toInt = 2147483647 := by decide
    exact iff_of_true (by rw [e]; omega) le_top
  | coe r =>
    rw [Ideal.liftRound_coe, fptosi_int, toInt_small _ (by omega) (by omega), EReal.coe_le_coe_iff, Int.cast_le]
    omega

/-- The integer comparison of a point's cell and a Gaussian's says whether the point is near. -/
theorem near_iff {p o : Fin 3 → EReal} {b : Blob} (h : InRange p o b) (i : Fin 3) :
    IntOp.cmpi .sle (IntOp.absi (IntOp.subi (Ideal.fptosi 32 (cell (p i) (o i))) (Ideal.fptosi 32 (cell (b.mean i) (o i)))))
      (Ideal.fptosi 32 b.radius) = 1#1 ↔ Near p o b i := by
  unfold Near Blob.at' Blob.radius
  obtain ⟨r, s, hp, ho, -, -⟩ := real_of_near (h.near i)
  have hb := h.bound i
  have hc := cell_near (h.near i)
  rw [ho] at hb
  obtain ⟨u, hu, hus⟩ := real_of_bound hb
  rw [hp, ho] at hc ⊢
  rw [hu]
  rw [cell_coe, cell_coe]
  rw [cell_coe] at hc
  refine mask_iff _ _ ?_ ?_ _
  · rcases hc with hc | hc
    · exact Or.inl (by exact_mod_cast hc)
    · exact Or.inr (by exact_mod_cast hc)
  · obtain ⟨a0, a1⟩ := abs_le.mp hus
    refine abs_le.mpr ⟨Int.le_floor.mpr (by push_cast; linarith), ?_⟩
    exact Int.le_of_lt_add_one (Int.floor_lt.mpr (by push_cast; linarith))

end Cert.Splat

end
-- ==== Proof.Reference.lean ====
/- What the reference computes: at every point and column the opacities, each by the weight of its Gaussian. -/
module

public import proofs.«01_k».proof.Proof.Weight
public import proofs.«01_k».proof.Proof.Consts
public import proofs.«01_k».proof.Proof.Mask
public import proofs.«01_k».proof.Proof.Gen.ReferenceIdeal.Read
public import Idealize.ShloMosaic.Lib.Pointwise

@[expose] public section

set_option maxRecDepth 16384

noncomputable section

namespace Cert.Splat

open Idealize.ShloMosaic Idealize.ShloMosaic.TcCoe Idealize.SL.Sem
open Cert.ReferenceIdeal Cert.ReferenceIdeal.Gen Cert.ReferenceIdeal.Read

/-- Gaussian `g` of three arrays: means, scales and covariances. -/
def gaussOf (x1 x3 : FVec Ideal S4096x3 .f32) (x4 : FVec Ideal S4096x3x3 .f32) (g : Fin 4096) : Blob where
  mean := fun i => x1 (ix2 g i)
  xx := x4 (ix3 g (0 : Fin 3) (0 : Fin 3))
  yy := x4 (ix3 g (1 : Fin 3) (1 : Fin 3))
  zz := x4 (ix3 g (2 : Fin 3) (2 : Fin 3))
  xy := x4 (ix3 g (0 : Fin 3) (1 : Fin 3))
  yz := x4 (ix3 g (1 : Fin 3) (2 : Fin 3))
  xz := x4 (ix3 g (0 : Fin 3) (2 : Fin 3))
  scale := fun i => x3 (ix2 g i)

variable (x0 : FVec Ideal S16384x3 .f32) (x1 x3 : FVec Ideal S4096x3 .f32) (x2 : FVec Ideal S4096x16 .f32)
  (x4 : FVec Ideal S4096x3x3 .f32) (x5 : FVec Ideal S3 .f32)

/-- The determinant, as the reference computes it. -/
theorem det_at (g : Fin 4096) : val_main_v46 (F := Ideal) x4 (ix1 g) = (gaussOf x1 x3 x4 g).determinant := by
  pointwise [val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  rfl

/-- Entry (0, 0) of the inverse. -/
theorem inverse_00 (g : Fin 4096) : val_main_v50 (F := Ideal) x4 (ix1 g) = (gaussOf x1 x3 x4 g).inverse 0 0 := by
  pointwise [val_main_v47, val_main_v48, val_main_v49, val_main_v50, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  rfl

/-- Entry (0, 1) of the inverse. -/
theorem inverse_01 (g : Fin 4096) : val_main_v54 (F := Ideal) x4 (ix1 g) = (gaussOf x1 x3 x4 g).inverse 0 1 := by
  pointwise [val_main_v51, val_main_v52, val_main_v53, val_main_v54, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  rfl

/-- Entry (0, 2) of the inverse. -/
theorem inverse_02 (g : Fin 4096) : val_main_v58 (F := Ideal) x4 (ix1 g) = (gaussOf x1 x3 x4 g).inverse 0 2 := by
  pointwise [val_main_v55, val_main_v56, val_main_v57, val_main_v58, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  rfl

/-- Entry (1, 0) of the inverse. -/
theorem inverse_10 (g : Fin 4096) : val_main_v66 (F := Ideal) x4 (ix1 g) = (gaussOf x1 x3 x4 g).inverse 1 0 := by
  pointwise [val_main_v63, val_main_v64, val_main_v65, val_main_v66, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  rfl

/-- Entry (1, 1) of the inverse. -/
theorem inverse_11 (g : Fin 4096) : val_main_v70 (F := Ideal) x4 (ix1 g) = (gaussOf x1 x3 x4 g).inverse 1 1 := by
  pointwise [val_main_v67, val_main_v68, val_main_v69, val_main_v70, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  rfl

/-- Entry (1, 2) of the inverse. -/
theorem inverse_12 (g : Fin 4096) : val_main_v74 (F := Ideal) x4 (ix1 g) = (gaussOf x1 x3 x4 g).inverse 1 2 := by
  pointwise [val_main_v71, val_main_v72, val_main_v73, val_main_v74, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  rfl

/-- Entry (2, 0) of the inverse. -/
theorem inverse_20 (g : Fin 4096) : val_main_v82 (F := Ideal) x4 (ix1 g) = (gaussOf x1 x3 x4 g).inverse 2 0 := by
  pointwise [val_main_v79, val_main_v80, val_main_v81, val_main_v82, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  rfl

/-- Entry (2, 1) of the inverse. -/
theorem inverse_21 (g : Fin 4096) : val_main_v86 (F := Ideal) x4 (ix1 g) = (gaussOf x1 x3 x4 g).inverse 2 1 := by
  pointwise [val_main_v83, val_main_v84, val_main_v85, val_main_v86, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  rfl

/-- Entry (2, 2) of the inverse. -/
theorem inverse_22 (g : Fin 4096) : val_main_v90 (F := Ideal) x4 (ix1 g) = (gaussOf x1 x3 x4 g).inverse 2 2 := by
  pointwise [val_main_v87, val_main_v88, val_main_v89, val_main_v90, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  rfl

/-- Row 0 of the inverse. -/
theorem row_0 (g : Fin 4096) (j : Fin 3) : val_main_v62 (F := Ideal) x4 (ix2 g j) = (gaussOf x1 x3 x4 g).inverse 0 j := by
  fin_vals j with hj
  all_goals (cases j; dsimp only at hj; subst hj)
  · refine Eq.trans ?_ (inverse_00 x1 x3 x4 g)
    pointwise [val_main_v62, val_main_v59, val_main_v60, val_main_v61]
  · refine Eq.trans ?_ (inverse_01 x1 x3 x4 g)
    pointwise [val_main_v62, val_main_v59, val_main_v60, val_main_v61]
  · refine Eq.trans ?_ (inverse_02 x1 x3 x4 g)
    pointwise [val_main_v62, val_main_v59, val_main_v60, val_main_v61]

/-- Row 1 of the inverse. -/
theorem row_1 (g : Fin 4096) (j : Fin 3) : val_main_v78 (F := Ideal) x4 (ix2 g j) = (gaussOf x1 x3 x4 g).inverse 1 j := by
  fin_vals j with hj
  all_goals (cases j; dsimp only at hj; subst hj)
  · refine Eq.trans ?_ (inverse_10 x1 x3 x4 g)
    pointwise [val_main_v78, val_main_v75, val_main_v76, val_main_v77]
  · refine Eq.trans ?_ (inverse_11 x1 x3 x4 g)
    pointwise [val_main_v78, val_main_v75, val_main_v76, val_main_v77]
  · refine Eq.trans ?_ (inverse_12 x1 x3 x4 g)
    pointwise [val_main_v78, val_main_v75, val_main_v76, val_main_v77]

/-- Row 2 of the inverse. -/
theorem row_2 (g : Fin 4096) (j : Fin 3) : val_main_v94 (F := Ideal) x4 (ix2 g j) = (gaussOf x1 x3 x4 g).inverse 2 j := by
  fin_vals j with hj
  all_goals (cases j; dsimp only at hj; subst hj)
  · refine Eq.trans ?_ (inverse_20 x1 x3 x4 g)
    pointwise [val_main_v94, val_main_v91, val_main_v92, val_main_v93]
  · refine Eq.trans ?_ (inverse_21 x1 x3 x4 g)
    pointwise [val_main_v94, val_main_v91, val_main_v92, val_main_v93]
  · refine Eq.trans ?_ (inverse_22 x1 x3 x4 g)
    pointwise [val_main_v94, val_main_v91, val_main_v92, val_main_v93]

/-- The reference's inverse matrices. -/
theorem inverse_at (g : Fin 4096) (k j : Fin 3) :
    val_main_v98 (F := Ideal) x4 (ix3 g k j) = (gaussOf x1 x3 x4 g).inverse k j := by
  fin_vals k with hk
  all_goals (cases k; dsimp only at hk; subst hk)
  · refine Eq.trans ?_ (row_0 x1 x3 x4 g j)
    pointwise [val_main_v98, val_main_v95, val_main_v96, val_main_v97]
  · refine Eq.trans ?_ (row_1 x1 x3 x4 g j)
    pointwise [val_main_v98, val_main_v95, val_main_v96, val_main_v97]
  · refine Eq.trans ?_ (row_2 x1 x3 x4 g j)
    pointwise [val_main_v98, val_main_v95, val_main_v96, val_main_v97]

/-- The difference of a point and a mean. -/
theorem diff_at (p : Fin 16384) (g : Fin 4096) (j : Fin 3) :
    val_main_v103 (F := Ideal) x0 x1 (ix3 p g j) = (x0 (ix2 p j) - x1 (ix2 g j) : EReal) := by
  pointwise [val_main_v99, val_main_v100, val_main_v101, val_main_v102, val_main_v103]

/-- The difference times the inverse. -/
theorem turned_at (p : Fin 16384) (g : Fin 4096) (j : Fin 3) :
    val_main_v104 (F := Ideal) x0 x1 x4 (ix3 g j p)
      = ∑ k : Fin 3, (gaussOf x1 x3 x4 g).inverse k j * (x0 (ix2 p k) - x1 (ix2 g k) : EReal) := by
  have e : val_main_v104 (F := Ideal) x0 x1 x4 (ix3 g j p)
      = ∑ k : Fin 3, val_main_v98 (F := Ideal) x4 (ix3 g k j) * val_main_v103 (F := Ideal) x0 x1 (ix3 p g k) := by
    pointwise [val_main_v104]
  exact e.trans (Finset.sum_congr rfl fun k _ => congrArg₂ (fun x y : EReal => x * y) (inverse_at x1 x3 x4 g k j) (diff_at x0 x1 p g k))

/-- The reference's squared distances. -/
theorem maha_at (p : Fin 16384) (g : Fin 4096) :
    val_main_v105 (F := Ideal) x0 x1 x4 (ix2 p g) = (gaussOf x1 x3 x4 g).maha fun i => x0 (ix2 p i) := by
  have e : val_main_v105 (F := Ideal) x0 x1 x4 (ix2 p g)
      = ∑ j : Fin 3, val_main_v103 (F := Ideal) x0 x1 (ix3 p g j) * val_main_v104 (F := Ideal) x0 x1 x4 (ix3 g j p) := by
    pointwise [val_main_v105]
  exact e.trans (Finset.sum_congr rfl fun j _ => congrArg₂ (fun x y : EReal => x * y) (diff_at x0 x1 p g j) (turned_at x0 x1 x3 x4 p g j))

/-- The reference's weights before its mask. -/
theorem density_at (p : Fin 16384) (g : Fin 4096) : val_main_v108 (F := Ideal) x0 x1 x4 (ix2 p g)
    = Ideal.exp (((-(1 / 2) : ℝ) : EReal) * (gaussOf x1 x3 x4 g).maha fun i => x0 (ix2 p i)) := by
  rw [← maha_at, ← bits_neg_half]
  pointwise [val_main_v108, val_main_v107, val_main_v106, val_main_cst_4]

/-- Division by a half is doubling. -/
theorem over_half (x : EReal) : Ideal.div x ((1 / 2 : ℝ) : EReal) = x * 2 := by
  rw [Ideal.div_coe (by norm_num)]
  norm_num
  rfl

/-- Three, doubled. -/
theorem three_twice : (((3 : ℝ) : EReal) * 2 : EReal) = 6 := by
  rw [show (2 : EReal) = ((2 : ℝ) : EReal) from rfl, ← EReal.coe_mul]
  norm_num
  rfl

/-- The cell of a point, as an integer. -/
theorem point_cell_at (p : Fin 16384) (i : Fin 3) :
    val_main_v6 (F := Ideal) x0 x5 (ix2 p i) = Ideal.fptosi 32 (cell (x0 (ix2 p i)) (x5 (ix1 i))) := by
  unfold cell
  rw [← over_half, ← bits_half]
  pointwise [val_main_v0, val_main_v1, val_main_v2, val_main_v3, val_main_v4, val_main_v5, val_main_v6, val_main_cst]
  rfl

/-- The cell of a mean, as an integer. -/
theorem mean_cell_at (g : Fin 4096) (i : Fin 3) :
    val_main_v13 (F := Ideal) x1 x5 (ix2 g i) = Ideal.fptosi 32 (cell (x1 (ix2 g i)) (x5 (ix1 i))) := by
  unfold cell
  rw [← over_half, ← bits_half]
  pointwise [val_main_v7, val_main_v8, val_main_v9, val_main_v10, val_main_v11, val_main_v12, val_main_v13, val_main_cst_0]
  rfl

/-- The largest of a Gaussian's three scales. -/
theorem largest_at (g : Fin 4096) :
    val_main_v14 (F := Ideal) x3 (ix1 g) = max (max (x3 (ix2 g (0 : Fin 3))) (x3 (ix2 g (1 : Fin 3)))) (x3 (ix2 g (2 : Fin 3)) : EReal) := by
  pointwise [val_main_v14, val_main_cst_1]
  rw [bits_bot]
  exact max_fold fun k => x3 (ix2 g k)

/-- A Gaussian's reach in cells, as an integer. -/
theorem radius_at (g : Fin 4096) :
    val_main_v20 (F := Ideal) x3 (ix1 g) = Ideal.fptosi 32 (gaussOf x1 x3 x4 g).radius := by
  have e : (gaussOf x1 x3 x4 g).radius = Ideal.liftRound Int.ceil (Ideal.div (val_main_v14 (F := Ideal) x3 (ix1 g) * Ideal.ofBits .f32 0x40400000#32) (Ideal.ofBits .f32 0x3F000000#32)) := by
    rw [bits_half, bits_three, over_half, mul_assoc, largest_at, three_twice]
    rfl
  rw [e]
  pointwise [val_main_v15, val_main_v16, val_main_v17, val_main_v18, val_main_v19, val_main_v20, val_main_cst_2, val_main_cst_3]
  rfl

/-- The reference's comparison along one axis says whether the point is near. -/
theorem reach_at (p : Fin 16384) (g : Fin 4096) (i : Fin 3) :
    val_main_v117 (F := Ideal) x0 x1 x3 x5 (ix3 p g i) = IntOp.cmpi .sle (IntOp.absi (IntOp.subi (val_main_v6 (F := Ideal) x0 x5 (ix2 p i)) (val_main_v13 (F := Ideal) x1 x5 (ix2 g i)))) (val_main_v20 (F := Ideal) x3 (ix1 g)) := by
  pointwise [val_main_v109, val_main_v110, val_main_v111, val_main_v112, val_main_v113, val_main_v114, val_main_v115, val_main_v116, val_main_v117]

/-- The reference's mask: every axis within reach. -/
theorem mask_at (p : Fin 16384) (g : Fin 4096) : val_main_v118 (F := Ideal) x0 x1 x3 x5 (ix2 p g) = 1#1
    ↔ ∀ i : Fin 3, val_main_v117 (F := Ideal) x0 x1 x3 x5 (ix3 p g i) = 1#1 := by
  have e : val_main_v118 (F := Ideal) x0 x1 x3 x5 (ix2 p g)
      = Finset.univ.fold IntOp.andi 1#1 fun i : Fin 3 => val_main_v117 (F := Ideal) x0 x1 x3 x5 (ix3 p g i) := by
    pointwise [val_main_v118, val_main_c]
  rw [e, and_fold]
  exact ⟨fun h i => h i (Finset.mem_univ i), fun h i _ => h i⟩

/-- A masked weight of the reference: the weight where the mask is set, zero elsewhere. -/
theorem masked_at (p : Fin 16384) (g : Fin 4096) : val_main_v119 (F := Ideal) x0 x1 x3 x4 x5 (ix2 p g)
    = Scalar.select (val_main_v118 (F := Ideal) x0 x1 x3 x5 (ix2 p g)) (val_main_v108 (F := Ideal) x0 x1 x4 (ix2 p g))
        (Ideal.ofBits .f32 0x00000000#32) := by
  rw [val_main_v119_apply, val_main_call0_v1_apply, val_main_call0_v0_apply]
  rfl

/-- An entry of the reference's product, as a sum over the Gaussians. -/
theorem sum_at (p : Fin 16384) (y : Fin 16) : val_main_v120 (F := Ideal) x0 x1 x2 x3 x4 x5 (ix2 p y)
    = ∑ g : Fin 4096, val_main_v119 (F := Ideal) x0 x1 x3 x4 x5 (ix2 p g) * x2 (ix2 g y) := by
  pointwise [val_main_v120]

open Classical in
/-- The weight of Gaussian `g` at point `p` in the reference. -/
theorem weight_at (p : Fin 16384) (g : Fin 4096)
    (h : InRange (fun i => x0 (ix2 p i)) (fun i => x5 (ix1 i)) (gaussOf x1 x3 x4 g)) :
    Scalar.select (val_main_v118 (F := Ideal) x0 x1 x3 x5 (ix2 p g)) (val_main_v108 (F := Ideal) x0 x1 x4 (ix2 p g))
        (Ideal.ofBits .f32 0x00000000#32)
      = Ideal.exp2 (exponent (fun i => x0 (ix2 p i)) (fun i => x5 (ix1 i)) (gaussOf x1 x3 x4 g)) := by
  rw [weight_eq h, density_at x0 x1 x3 x4, Ideal.ofBits_zero_f32]
  have hm : val_main_v118 (F := Ideal) x0 x1 x3 x5 (ix2 p g) = 1#1
      ↔ ∀ i, Near (fun i => x0 (ix2 p i)) (fun i => x5 (ix1 i)) (gaussOf x1 x3 x4 g) i := by
    rw [mask_at]
    refine forall_congr' fun i => ?_
    rw [reach_at, point_cell_at, mean_cell_at, radius_at x1 x3 x4]
    exact near_iff h i
  unfold Scalar.select
  by_cases hn : ∀ i, Near (fun i => x0 (ix2 p i)) (fun i => x5 (ix1 i)) (gaussOf x1 x3 x4 g) i
  · exact (if_pos (hm.mpr hn)).trans (if_pos hn).symm
  · exact (if_neg fun h1 => hn (hm.mp h1)).trans (if_neg hn).symm

/-- What the reference computes, in the kernel's terms, for arguments in range. -/
theorem reference_at (p : Fin 16384) (y : Fin 16)
    (h : ∀ g, InRange (fun i => x0 (ix2 p i)) (fun i => x5 (ix1 i)) (gaussOf x1 x3 x4 g)) :
    val_main_v120 (F := Ideal) x0 x1 x2 x3 x4 x5 (ix2 p y)
      = ∑ g : Fin 4096, Ideal.exp2 (exponent (fun i => x0 (ix2 p i)) (fun i => x5 (ix1 i)) (gaussOf x1 x3 x4 g)) * x2 (ix2 g y) :=
  (sum_at x0 x1 x3 x2 x4 x5 p y).trans
    (Finset.sum_congr rfl fun g _ => congrArg (fun w : EReal => w * x2 (ix2 g y)) ((masked_at x0 x1 x3 x4 x5 p g).trans (weight_at x0 x1 x3 x4 x5 p g (h g))))

end Cert.Splat

end
-- ==== Proof.Range.lean ====
/- What the precondition gives of every point and every Gaussian. -/
module

public import proofs.«01_k».proof.Proof.Reference
public import proofs.«01_k».proof.Proof.Gen.Pre_in_range

@[expose] public section

set_option maxRecDepth 16384

noncomputable section

namespace Cert.Splat

open Idealize.ShloMosaic Idealize.ShloMosaic.TcCoe Idealize.SL.Sem
open Cert.Pre_in_range

/-- A conjunction of bits is set when both are. -/
theorem and_bit (a b : BitVec 1) : IntOp.andi a b = 1#1 ↔ a = 1#1 ∧ b = 1#1 := by
  revert a b
  decide

/-- A disjunction of bits is set when one is. -/
theorem or_bit (a b : BitVec 1) : IntOp.ori a b = 1#1 ↔ a = 1#1 ∨ b = 1#1 := by
  revert a b
  decide

/-- The bit of a proposition is set when it holds. -/
theorem bool_bit (P : Prop) [Decidable P] : BitVec.ofBool (decide P) = 1#1 ↔ P := by
  by_cases h : P <;> simp [h]

variable [Facts] (x0 : FVec Ideal S16384x3 .f32) (x1 x3 : FVec Ideal S4096x3 .f32) (x2 : FVec Ideal S4096x16 .f32)
  (x4 : FVec Ideal S4096x3x3 .f32) (x5 : FVec Ideal S3 .f32)

/-- The precondition, read at its one entry: five conjunctions over the entries of the arguments. -/
theorem pre_bits : Cert.Pre_in_range.fn (F := Ideal) x0 x1 x2 x3 x4 x5 ix0 = 1#1 →
    (∀ (p : Fin 16384) (i : Fin 3), 0 ≤ (x0 (ix2 p i) - x5 (ix1 i) : EReal) ∧ (x0 (ix2 p i) - x5 (ix1 i) : EReal) < 1)
    ∧ (∀ (g : Fin 4096) (i : Fin 3), size (x1 (ix2 g i) - x5 (ix1 i) : EReal) ≤ ((536870912 : ℝ) : EReal))
    ∧ (∀ g : Fin 4096, (((((size (x4 (ix3 g 0 0)) < ⊤ ∧ size (x4 (ix3 g 1 1)) < ⊤) ∧ size (x4 (ix3 g 2 2)) < ⊤)
        ∧ size (x4 (ix3 g 0 1)) < ⊤) ∧ size (x4 (ix3 g 1 2)) < ⊤) ∧ size (x4 (ix3 g 0 2)) < ⊤))
    ∧ (∀ g : Fin 4096, (gaussOf x1 x3 x4 g).det ≠ 0)
    ∧ (∀ (g : Fin 4096) (i : Fin 3), size ((gaussOf x1 x3 x4 g).at' (fun i => x5 (ix1 i)) i) ≤ (gaussOf x1 x3 x4 g).radius
        ∨ (gaussOf x1 x3 x4 g).radius < size (1 - (gaussOf x1 x3 x4 g).at' (fun i => x5 (ix1 i)) i)) := by
  have e : Cert.Pre_in_range.fn (F := Ideal) x0 x1 x2 x3 x4 x5 ix0
    = IntOp.andi (IntOp.andi (IntOp.andi (IntOp.andi
        (Finset.univ.fold IntOp.andi 1#1 fun x : Fin 16384 × Fin 3 =>
          IntOp.andi (BitVec.ofBool (decide (0 ≤ (x0 (ix2 x.1 x.2) - x5 (ix1 x.2) : EReal))))
            (BitVec.ofBool (decide ((x0 (ix2 x.1 x.2) - x5 (ix1 x.2) : EReal) < 1))))
        (Finset.univ.fold IntOp.andi 1#1 fun x : Fin 4096 × Fin 3 =>
          BitVec.ofBool (decide (size (x1 (ix2 x.1 x.2) - x5 (ix1 x.2) : EReal) ≤ Ideal.ofBits .f32 0x4E000000#32))))
        (Finset.univ.fold IntOp.andi 1#1 fun x : Fin 4096 => IntOp.andi (IntOp.andi (IntOp.andi (IntOp.andi (IntOp.andi
          (BitVec.ofBool (decide (size (x4 (ix3 x 0 0)) < Ideal.ofBits .f32 0x7F800000#32)))
          (BitVec.ofBool (decide (size (x4 (ix3 x 1 1)) < Ideal.ofBits .f32 0x7F800000#32))))
          (BitVec.ofBool (decide (size (x4 (ix3 x 2 2)) < Ideal.ofBits .f32 0x7F800000#32))))
          (BitVec.ofBool (decide (size (x4 (ix3 x 0 1)) < Ideal.ofBits .f32 0x7F800000#32))))
          (BitVec.ofBool (decide (size (x4 (ix3 x 1 2)) < Ideal.ofBits .f32 0x7F800000#32))))
          (BitVec.ofBool (decide (size (x4 (ix3 x 0 2)) < Ideal.ofBits .f32 0x7F800000#32)))))
        (Finset.univ.fold IntOp.andi 1#1 fun x : Fin 4096 => BitVec.ofBool (decide ((gaussOf x1 x3 x4 x).det ≠ 0))))
        (Finset.univ.fold IntOp.andi 1#1 fun x : Fin 4096 × Fin 3 => IntOp.ori
          (BitVec.ofBool (decide (size ((gaussOf x1 x3 x4 x.1).at' (fun i => x5 (ix1 i)) x.2) ≤ (gaussOf x1 x3 x4 x.1).radius)))
          (BitVec.ofBool (decide ((gaussOf x1 x3 x4 x.1).radius < size (1 - (gaussOf x1 x3 x4 x.1).at' (fun i => x5 (ix1 i)) x.2))))) := by
    pointwise [Cert.Pre_in_range.fn, Cert.Pre_in_range.fn_part4, Cert.Pre_in_range.fn_part3, Cert.Pre_in_range.fn_part2, Cert.Pre_in_range.fn_part1]
    simp only [bits_two, bits_six, bits_bot, max_fold]
    rfl
  rw [e]
  simp only [and_bit, or_bit, bool_bit, and_fold, bits_top, bits_reach, Finset.mem_univ, true_imp_iff, Prod.forall, and_imp]
  intro h0 h1 h2 h3 h4
  refine ⟨?_, ?_, ?_, ?_, ?_⟩
  · exact h0
  · exact h1
  · exact h2
  · exact h3
  · exact h4

/-- Arguments that satisfy the precondition have every point and every Gaussian in range. -/
theorem in_range (h : Cert.Pre_in_range.fn (F := Ideal) x0 x1 x2 x3 x4 x5 = fun _ => 1#1) (p : Fin 16384) (g : Fin 4096) :
    InRange (fun i => x0 (ix2 p i)) (fun i => x5 (ix1 i)) (gaussOf x1 x3 x4 g) := by
  obtain ⟨near, bound, finite, regular, reach⟩ := pre_bits x0 x1 x3 x2 x4 x5 (congrFun h ix0)
  obtain ⟨⟨⟨⟨⟨xx, yy⟩, zz⟩, xy⟩, yz⟩, xz⟩ := finite g
  exact ⟨fun i => near p i, fun i => bound g i, ⟨xx, yy, zz, xy, yz, xz⟩, regular g, fun i => reach g i⟩

end Cert.Splat

end
-- ==== Proof.Rows.lean ====
/- The rows of the kernel's two 48-row buffers, entry by entry: the features of a point three times (the last time their
   remainders) and the coefficients of a Gaussian three times (the second time their remainders). -/
module

public import proofs.«01_k».proof.Proof.Gen.KernelIdeal.Skeleton
public import proofs.«01_k».proof.Proof.Weight
public import proofs.«01_k».proof.Proof.Consts
public import Idealize.ShloMosaic.Lib.Pointwise

@[expose] public section

set_option maxRecDepth 16384

noncomputable section

namespace Cert.Splat

open Idealize.ShloMosaic Idealize.ShloMosaic.TcCoe Idealize.SL.Sem
open Cert.KernelIdeal Cert.KernelIdeal.Gen

/-- The point in column `q` of three coordinate rows. -/
def pointAt (v3 v5 v7 : FVec Ideal S1x8192 .f32) (q : Fin 8192) : Fin 3 → EReal :=
  ![v3 (ix2 (0 : Fin 1) q), v5 (ix2 (0 : Fin 1) q), v7 (ix2 (0 : Fin 1) q)]

/-- The first sixteen rows of the points' buffer are the features. -/
theorem feat_first (v3 v5 v7 : FVec Ideal S1x8192 .f32) (a b c : Ideal .f32) (k : Fin 16) (q : Fin 8192) :
    k0_pay45 (F := Ideal) v3 v5 v7 a b c (ix2 (⟨k.val, by omega⟩ : Fin 48) q) = feat (pointAt v3 v5 v7 q) ![a, b, c] k := by
  pointwise [k0_pay45]
  simp only [bits_two]
  fin_vals k with hk
  all_goals (cases k; dsimp only at hk; subst hk; rfl)

/-- The next sixteen rows repeat them. -/
theorem feat_second (v3 v5 v7 : FVec Ideal S1x8192 .f32) (a b c : Ideal .f32) (k : Fin 16) (q : Fin 8192) :
    k0_pay45 (F := Ideal) v3 v5 v7 a b c (ix2 (⟨16 + k.val, by omega⟩ : Fin 48) q) = feat (pointAt v3 v5 v7 q) ![a, b, c] k := by
  pointwise [k0_pay45]
  simp only [bits_two]
  fin_vals k with hk
  all_goals (cases k; dsimp only at hk; subst hk; rfl)

/-- The last sixteen rows hold what rounding the features left. -/
theorem feat_third (v3 v5 v7 : FVec Ideal S1x8192 .f32) (a b c : Ideal .f32) (k : Fin 16) (q : Fin 8192) :
    k0_pay45 (F := Ideal) v3 v5 v7 a b c (ix2 (⟨32 + k.val, by omega⟩ : Fin 48) q)
      = feat (pointAt v3 v5 v7 q) ![a, b, c] k - feat (pointAt v3 v5 v7 q) ![a, b, c] k := by
  pointwise [k0_pay45]
  simp only [bits_two]
  fin_vals k with hk
  all_goals (cases k; dsimp only at hk; subst hk; rfl)

/-- Sixteen coefficient rows, one under the other. -/
def stack16 (f : Fin 16 → FVec Ideal S1x4096 .f32) : FVec Ideal S16x4096 .f32 :=
  concatenate S16x4096 0 (List.ofFn fun n : Fin 16 => (⟨S1x4096, f n⟩ : (s : Shape) × (s.Idx → Ideal .f32)))
    concatenates_S1x4096_S1x4096_S1x4096_S1x4096_S1x4096_S1x4096_S1x4096_S1x4096_S1x4096_S1x4096_S1x4096_S1x4096_S1x4096_S1x4096_S1x4096_S1x4096_S16x4096_d0

/-- Row `k` of sixteen stacked rows. -/
theorem stack16_at (f : Fin 16 → FVec Ideal S1x4096 .f32) (k : Fin 16) (l : Fin 4096) :
    stack16 f (ix2 k l) = f k (ix2 (0 : Fin 1) l) := by
  refine concatenate_ofFn_unit_apply (t := S16x4096) (s₁ := S1x4096) 0 f _ rfl rfl (ix2 k l) k rfl _ fun b hb => ?_
  match b, hb with
  | ⟨0, _⟩, hb => exact absurd rfl hb
  | ⟨1, _⟩, _ => rfl

/-- The coefficients' buffer as the kernel stores it: the rows rounded, what rounding left, the rows rounded. -/
def stack48 (h : FVec Ideal S16x4096 .f32) : FVec Ideal S48x4096 .bf16 :=
  concatenate S48x4096 0 [⟨S16x4096, truncf .bf16 h bitsLt_bf16_f32⟩,
    ⟨S16x4096, truncf .bf16 (subf h (extf .f32 (truncf .bf16 h bitsLt_bf16_f32) bitsLt_bf16_f32)) bitsLt_bf16_f32⟩,
    ⟨S16x4096, truncf .bf16 h bitsLt_bf16_f32⟩] concatenates_S16x4096_S16x4096_S16x4096_S48x4096_d0

/-- The first sixteen rows of the stack are the coefficients. -/
theorem stack48_first (h : FVec Ideal S16x4096 .f32) (k : Fin 16) (l : Fin 4096) :
    stack48 h (ix2 (⟨k.val, by omega⟩ : Fin 48) l) = h (ix2 k l) := by
  pointwise [stack48]

/-- The next sixteen are the coefficients' remainders. -/
theorem stack48_second (h : FVec Ideal S16x4096 .f32) (k : Fin 16) (l : Fin 4096) :
    stack48 h (ix2 (⟨16 + k.val, by omega⟩ : Fin 48) l) = (h (ix2 k l) - h (ix2 k l) : EReal) := by
  pointwise [stack48]

/-- The last sixteen are the coefficients again. -/
theorem stack48_third (h : FVec Ideal S16x4096 .f32) (k : Fin 16) (l : Fin 4096) :
    stack48 h (ix2 (⟨32 + k.val, by omega⟩ : Fin 48) l) = h (ix2 k l) := by
  pointwise [stack48]
  rw [dif_neg (by omega), dif_neg (by omega)]
  congr 2
  exact Fin.ext (by dsimp only; omega)

/-- The sixteen coefficient rows. -/
def rows (v92 v93 v94 v95 v96 v97 v102 v107 v112 v117 v147 v160 v173 v178 v200 : FVec Ideal S1x4096 .f32) (v182 : IVec S1x4096 1) :
    Fin 16 → FVec Ideal S1x4096 .f32 :=
  ![v92, v95, v97, mulf (broadcast S1x4096 (Scalar.ofBits .f32 0x40000000#32)) v93,
    mulf (broadcast S1x4096 (Scalar.ofBits .f32 0x40000000#32)) v96,
    mulf (broadcast S1x4096 (Scalar.ofBits .f32 0x40000000#32)) v94,
    mulf (broadcast S1x4096 (Scalar.ofBits .f32 0xC0000000#32)) v102,
    mulf (broadcast S1x4096 (Scalar.ofBits .f32 0xC0000000#32)) v107,
    mulf (broadcast S1x4096 (Scalar.ofBits .f32 0xC0000000#32)) v112, v117, v200, v160, v173,
    subf (select v182 (broadcast S1x4096 (Scalar.ofBits .f32 0x00000000#32))
      (broadcast S1x4096 (Named.named Cert.KernelIdeal.κ "hidden" 0xC6000000#32))) v178, v147, v147]

/-- The coefficients' buffer is the three stacks of those rows. -/
theorem pay43_eq (v92 v93 v94 v95 v96 v97 v102 v107 v112 v117 v147 v160 v173 v178 v200 : FVec Ideal S1x4096 .f32) (v182 : IVec S1x4096 1) :
    k0_pay43 (F := Ideal) v92 v93 v94 v95 v96 v97 v102 v107 v112 v117 v147 v160 v173 v178 v182 v200 = stack48 (stack16 (rows v92 v93 v94 v95 v96 v97 v102 v107 v112 v117 v147 v160 v173 v178 v200 v182)) := by
  refine Eq.trans ?_ (Idealize.ShloMosaic.shapeCast_id _ shapeCasts_S48x4096_S48x4096)
  rfl

end Cert.Splat

end
-- ==== Proof.Coef.lean ====
/- The coefficient rows of the kernel over the rows of its inputs: column `l` of the sixteen rows holds the sixteen
   coefficients of Gaussian `l`. -/
module

public import proofs.«01_k».proof.Proof.Rows
public import proofs.«01_k».proof.Proof.Consts

@[expose] public section

set_option maxRecDepth 16384

noncomputable section

namespace Cert.Splat

open Idealize.ShloMosaic Idealize.ShloMosaic.TcCoe Idealize.SL.Sem
open Cert.KernelIdeal Cert.KernelIdeal.Gen

variable (m0 m1 m2 xx yy zz xy yz xz s0 s1 s2 : FVec Ideal S1x4096 .f32) (a b c : Ideal .f32)

/-- The Gaussian in column `l` of the input rows. -/
def blobAt (l : Fin 4096) : Blob where
  mean := ![m0 (ix2 (0 : Fin 1) l), m1 (ix2 (0 : Fin 1) l), m2 (ix2 (0 : Fin 1) l)]
  xx := xx (ix2 (0 : Fin 1) l)
  yy := yy (ix2 (0 : Fin 1) l)
  zz := zz (ix2 (0 : Fin 1) l)
  xy := xy (ix2 (0 : Fin 1) l)
  yz := yz (ix2 (0 : Fin 1) l)
  xz := xz (ix2 (0 : Fin 1) l)
  scale := ![s0 (ix2 (0 : Fin 1) l), s1 (ix2 (0 : Fin 1) l), s2 (ix2 (0 : Fin 1) l)]

/-- The value of the constant the kernel divides by the determinant. -/
theorem kappa_value : (Named.named Cert.KernelIdeal.κ "neg_half_log2e" 0xBF38AA3B#32 : Ideal .f32)
    = ((-((2 * (Real.log 2))⁻¹) : ℝ) : EReal) := IdealRules.named_const.ideal_named_scalar _ _ _ _ rfl

/-- The value of the constant of a Gaussian out of reach. -/
theorem hidden_value : (Named.named Cert.KernelIdeal.κ "hidden" 0xC6000000#32 : Ideal .f32) = ⊥ :=
  IdealRules.named_const.ideal_named_scalar _ _ _ _ rfl

/-- The scaled inverse's xx entry, as the body computes it. -/
theorem inv_xx (l : Fin 4096) : (k0_pay19 (F := Ideal) (k0_pay11 (F := Ideal) yy zz yz) (k0_pay17 (F := Ideal) xx yy zz xy yz xz) (Named.named Cert.KernelIdeal.κ "neg_half_log2e" 0xBF38AA3B#32)) (ix2 (0 : Fin 1) l)
    = (blobAt m0 m1 m2 xx yy zz xy yz xz s0 s1 s2 l).axx := by
  pointwise [k0_pay19, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [kappa_value]
  rfl

/-- The scaled inverse's xy entry, as the body computes it. -/
theorem inv_xy (l : Fin 4096) : (k0_pay20 (F := Ideal) (k0_pay12 (F := Ideal) zz xy yz xz) (k0_pay17 (F := Ideal) xx yy zz xy yz xz) (Named.named Cert.KernelIdeal.κ "neg_half_log2e" 0xBF38AA3B#32)) (ix2 (0 : Fin 1) l)
    = (blobAt m0 m1 m2 xx yy zz xy yz xz s0 s1 s2 l).axy := by
  pointwise [k0_pay20, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [kappa_value]
  rfl

/-- The scaled inverse's xz entry, as the body computes it. -/
theorem inv_xz (l : Fin 4096) : (k0_pay21 (F := Ideal) (k0_pay13 (F := Ideal) yy xy yz xz) (k0_pay17 (F := Ideal) xx yy zz xy yz xz) (Named.named Cert.KernelIdeal.κ "neg_half_log2e" 0xBF38AA3B#32)) (ix2 (0 : Fin 1) l)
    = (blobAt m0 m1 m2 xx yy zz xy yz xz s0 s1 s2 l).axz := by
  pointwise [k0_pay21, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [kappa_value]
  rfl

/-- The scaled inverse's yy entry, as the body computes it. -/
theorem inv_yy (l : Fin 4096) : (k0_pay22 (F := Ideal) (k0_pay14 (F := Ideal) xx zz xz) (k0_pay17 (F := Ideal) xx yy zz xy yz xz) (Named.named Cert.KernelIdeal.κ "neg_half_log2e" 0xBF38AA3B#32)) (ix2 (0 : Fin 1) l)
    = (blobAt m0 m1 m2 xx yy zz xy yz xz s0 s1 s2 l).ayy := by
  pointwise [k0_pay22, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [kappa_value]
  rfl

/-- The scaled inverse's yz entry, as the body computes it. -/
theorem inv_yz (l : Fin 4096) : (k0_pay23 (F := Ideal) (k0_pay15 (F := Ideal) xx xy yz xz) (k0_pay17 (F := Ideal) xx yy zz xy yz xz) (Named.named Cert.KernelIdeal.κ "neg_half_log2e" 0xBF38AA3B#32)) (ix2 (0 : Fin 1) l)
    = (blobAt m0 m1 m2 xx yy zz xy yz xz s0 s1 s2 l).ayz := by
  pointwise [k0_pay23, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [kappa_value]
  rfl

/-- The scaled inverse's zz entry, as the body computes it. -/
theorem inv_zz (l : Fin 4096) : (k0_pay24 (F := Ideal) (k0_pay16 (F := Ideal) xx yy xy) (k0_pay17 (F := Ideal) xx yy zz xy yz xz) (Named.named Cert.KernelIdeal.κ "neg_half_log2e" 0xBF38AA3B#32)) (ix2 (0 : Fin 1) l)
    = (blobAt m0 m1 m2 xx yy zz xy yz xz s0 s1 s2 l).azz := by
  pointwise [k0_pay24, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [kappa_value]
  rfl

/-- The x coordinate of the scaled inverse times the mean. -/
theorem inv_mean_x (l : Fin 4096) : (k0_pay25 (F := Ideal) (k0_pay2 (F := Ideal) m0) (k0_pay3 (F := Ideal) m1) (k0_pay4 (F := Ideal) m2) (k0_pay11 (F := Ideal) yy zz yz) (k0_pay12 (F := Ideal) zz xy yz xz) (k0_pay13 (F := Ideal) yy xy yz xz) (k0_pay17 (F := Ideal) xx yy zz xy yz xz) (Named.named Cert.KernelIdeal.κ "neg_half_log2e" 0xBF38AA3B#32)) (ix2 (0 : Fin 1) l)
    = (blobAt m0 m1 m2 xx yy zz xy yz xz s0 s1 s2 l).bx := by
  pointwise [k0_pay25, k0_pay19, k0_pay20, k0_pay21, k0_pay22, k0_pay23, k0_pay24, k0_pay25, k0_pay26, k0_pay27, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [kappa_value]
  rfl

/-- The y coordinate of the scaled inverse times the mean. -/
theorem inv_mean_y (l : Fin 4096) : (k0_pay26 (F := Ideal) (k0_pay2 (F := Ideal) m0) (k0_pay3 (F := Ideal) m1) (k0_pay4 (F := Ideal) m2) (k0_pay12 (F := Ideal) zz xy yz xz) (k0_pay14 (F := Ideal) xx zz xz) (k0_pay15 (F := Ideal) xx xy yz xz) (k0_pay17 (F := Ideal) xx yy zz xy yz xz) (Named.named Cert.KernelIdeal.κ "neg_half_log2e" 0xBF38AA3B#32)) (ix2 (0 : Fin 1) l)
    = (blobAt m0 m1 m2 xx yy zz xy yz xz s0 s1 s2 l).by' := by
  pointwise [k0_pay26, k0_pay19, k0_pay20, k0_pay21, k0_pay22, k0_pay23, k0_pay24, k0_pay25, k0_pay26, k0_pay27, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [kappa_value]
  rfl

/-- The z coordinate of the scaled inverse times the mean. -/
theorem inv_mean_z (l : Fin 4096) : (k0_pay27 (F := Ideal) (k0_pay2 (F := Ideal) m0) (k0_pay3 (F := Ideal) m1) (k0_pay4 (F := Ideal) m2) (k0_pay13 (F := Ideal) yy xy yz xz) (k0_pay15 (F := Ideal) xx xy yz xz) (k0_pay16 (F := Ideal) xx yy xy) (k0_pay17 (F := Ideal) xx yy zz xy yz xz) (Named.named Cert.KernelIdeal.κ "neg_half_log2e" 0xBF38AA3B#32)) (ix2 (0 : Fin 1) l)
    = (blobAt m0 m1 m2 xx yy zz xy yz xz s0 s1 s2 l).bz := by
  pointwise [k0_pay27, k0_pay19, k0_pay20, k0_pay21, k0_pay22, k0_pay23, k0_pay24, k0_pay25, k0_pay26, k0_pay27, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [kappa_value]
  rfl

/-- The scaled quadratic form at the mean. -/
theorem quad_at (l : Fin 4096) : (k0_pay28 (F := Ideal) (k0_pay2 (F := Ideal) m0) (k0_pay3 (F := Ideal) m1) (k0_pay4 (F := Ideal) m2) (k0_pay11 (F := Ideal) yy zz yz) (k0_pay12 (F := Ideal) zz xy yz xz) (k0_pay13 (F := Ideal) yy xy yz xz) (k0_pay14 (F := Ideal) xx zz xz) (k0_pay15 (F := Ideal) xx xy yz xz) (k0_pay16 (F := Ideal) xx yy xy) (k0_pay17 (F := Ideal) xx yy zz xy yz xz) (Named.named Cert.KernelIdeal.κ "neg_half_log2e" 0xBF38AA3B#32)) (ix2 (0 : Fin 1) l)
    = (blobAt m0 m1 m2 xx yy zz xy yz xz s0 s1 s2 l).quad := by
  pointwise [k0_pay28, k0_pay19, k0_pay20, k0_pay21, k0_pay22, k0_pay23, k0_pay24, k0_pay25, k0_pay26, k0_pay27, k0_pay2, k0_pay3, k0_pay4, k0_pay5, k0_pay6, k0_pay7, k0_pay8, k0_pay9, k0_pay10, k0_pay11, k0_pay12, k0_pay13, k0_pay14, k0_pay15, k0_pay16, k0_pay17, k0_pay18]
  simp only [kappa_value]
  rfl

/-- The gate of cell 0 along x. -/
theorem gate0_x (l : Fin 4096) : (k0_pay36 (F := Ideal) (k0_pay29 (k0_pay2 (F := Ideal) m0) a) (k0_pay32 (F := Ideal) s0) (k0_pay33 (F := Ideal) s1) s2) (ix2 (0 : Fin 1) l)
    = (blobAt m0 m1 m2 xx yy zz xy yz xz s0 s1 s2 l).gate0 ![a, b, c] 0 := by
  pointwise [k0_pay2, k0_pay3, k0_pay4, k0_pay5, k0_pay6, k0_pay7, k0_pay8, k0_pay9, k0_pay10, k0_pay18, k0_pay29, k0_pay30, k0_pay31, k0_pay32, k0_pay33, k0_pay34, k0_pay36, k0_pay38, k0_pay40, k0_pay41, k0_pay42, k0_pay37, k0_pay39]
  simp only [hidden_value, bits_one, bits_two, bits_six]
  rfl

/-- The gate of cell 0 along y. -/
theorem gate0_y (l : Fin 4096) : (k0_pay38 (F := Ideal) (k0_pay30 (k0_pay3 (F := Ideal) m1) b) (k0_pay32 (F := Ideal) s0) (k0_pay33 (F := Ideal) s1) s2) (ix2 (0 : Fin 1) l)
    = (blobAt m0 m1 m2 xx yy zz xy yz xz s0 s1 s2 l).gate0 ![a, b, c] 1 := by
  pointwise [k0_pay2, k0_pay3, k0_pay4, k0_pay5, k0_pay6, k0_pay7, k0_pay8, k0_pay9, k0_pay10, k0_pay18, k0_pay29, k0_pay30, k0_pay31, k0_pay32, k0_pay33, k0_pay34, k0_pay36, k0_pay38, k0_pay40, k0_pay41, k0_pay42, k0_pay37, k0_pay39]
  simp only [hidden_value, bits_one, bits_two, bits_six]
  rfl

/-- The gate of cell 0 along z. -/
theorem gate0_z (l : Fin 4096) : (k0_pay40 (F := Ideal) (k0_pay31 (k0_pay4 (F := Ideal) m2) c) (k0_pay32 (F := Ideal) s0) (k0_pay33 (F := Ideal) s1) s2) (ix2 (0 : Fin 1) l)
    = (blobAt m0 m1 m2 xx yy zz xy yz xz s0 s1 s2 l).gate0 ![a, b, c] 2 := by
  pointwise [k0_pay2, k0_pay3, k0_pay4, k0_pay5, k0_pay6, k0_pay7, k0_pay8, k0_pay9, k0_pay10, k0_pay18, k0_pay29, k0_pay30, k0_pay31, k0_pay32, k0_pay33, k0_pay34, k0_pay36, k0_pay38, k0_pay40, k0_pay41, k0_pay42, k0_pay37, k0_pay39]
  simp only [hidden_value, bits_one, bits_two, bits_six]
  rfl

/-- The step from the gate of cell 0 to that of cell 1 along x. -/
theorem gate1_x (l : Fin 4096) : (k0_pay37 (F := Ideal) (k0_pay29 (k0_pay2 (F := Ideal) m0) a) (k0_pay32 (F := Ideal) s0) (k0_pay33 (F := Ideal) s1) s2) (ix2 (0 : Fin 1) l)
    = (blobAt m0 m1 m2 xx yy zz xy yz xz s0 s1 s2 l).gate1 ![a, b, c] 0 - (blobAt m0 m1 m2 xx yy zz xy yz xz s0 s1 s2 l).gate0 ![a, b, c] 0 := by
  pointwise [k0_pay2, k0_pay3, k0_pay4, k0_pay5, k0_pay6, k0_pay7, k0_pay8, k0_pay9, k0_pay10, k0_pay18, k0_pay29, k0_pay30, k0_pay31, k0_pay32, k0_pay33, k0_pay34, k0_pay36, k0_pay38, k0_pay40, k0_pay41, k0_pay42, k0_pay37, k0_pay39]
  simp only [hidden_value, bits_one, bits_two, bits_six]
  rfl

/-- The step from the gate of cell 0 to that of cell 1 along y. -/
theorem gate1_y (l : Fin 4096) : (k0_pay39 (F := Ideal) (k0_pay30 (k0_pay3 (F := Ideal) m1) b) (k0_pay32 (F := Ideal) s0) (k0_pay33 (F := Ideal) s1) s2) (ix2 (0 : Fin 1) l)
    = (blobAt m0 m1 m2 xx yy zz xy yz xz s0 s1 s2 l).gate1 ![a, b, c] 1 - (blobAt m0 m1 m2 xx yy zz xy yz xz s0 s1 s2 l).gate0 ![a, b, c] 1 := by
  pointwise [k0_pay2, k0_pay3, k0_pay4, k0_pay5, k0_pay6, k0_pay7, k0_pay8, k0_pay9, k0_pay10, k0_pay18, k0_pay29, k0_pay30, k0_pay31, k0_pay32, k0_pay33, k0_pay34, k0_pay36, k0_pay38, k0_pay40, k0_pay41, k0_pay42, k0_pay37, k0_pay39]
  simp only [hidden_value, bits_one, bits_two, bits_six]
  rfl

/-- The step from the gate of cell 0 to that of cell 1 along z. -/
theorem gate1_z (l : Fin 4096) : subf (select (k0_pay41 (F := Ideal) (k0_pay31 (k0_pay4 (F := Ideal) m2) c) (k0_pay32 (F := Ideal) s0) (k0_pay33 (F := Ideal) s1) s2) (broadcast S1x4096 (Scalar.ofBits (F := Ideal) .f32 0x00000000#32))
      (broadcast S1x4096 (Named.named Cert.KernelIdeal.κ "hidden" 0xC6000000#32 : Ideal .f32))) (k0_pay40 (F := Ideal) (k0_pay31 (k0_pay4 (F := Ideal) m2) c) (k0_pay32 (F := Ideal) s0) (k0_pay33 (F := Ideal) s1) s2) (ix2 (0 : Fin 1) l)
    = (blobAt m0 m1 m2 xx yy zz xy yz xz s0 s1 s2 l).gate1 ![a, b, c] 2 - (blobAt m0 m1 m2 xx yy zz xy yz xz s0 s1 s2 l).gate0 ![a, b, c] 2 := by
  pointwise [k0_pay2, k0_pay3, k0_pay4, k0_pay5, k0_pay6, k0_pay7, k0_pay8, k0_pay9, k0_pay10, k0_pay18, k0_pay29, k0_pay30, k0_pay31, k0_pay32, k0_pay33, k0_pay34, k0_pay36, k0_pay38, k0_pay40, k0_pay41, k0_pay42, k0_pay37, k0_pay39]
  simp only [hidden_value, bits_one, bits_two, bits_six]
  rfl

/-- The sum of the three gates of cell 0. -/
theorem gate0_sum (l : Fin 4096) : (k0_pay42 (F := Ideal) (k0_pay36 (k0_pay29 (F := Ideal) (k0_pay2 (F := Ideal) m0) a) (k0_pay32 (F := Ideal) s0) (k0_pay33 (F := Ideal) s1) s2) (k0_pay38 (F := Ideal) (k0_pay30 (k0_pay3 (F := Ideal) m1) b) (k0_pay32 (F := Ideal) s0) (k0_pay33 (F := Ideal) s1) s2) (k0_pay40 (F := Ideal) (k0_pay31 (k0_pay4 (F := Ideal) m2) c) (k0_pay32 (F := Ideal) s0) (k0_pay33 (F := Ideal) s1) s2)) (ix2 (0 : Fin 1) l)
    = (blobAt m0 m1 m2 xx yy zz xy yz xz s0 s1 s2 l).gate0 ![a, b, c] 0 + (blobAt m0 m1 m2 xx yy zz xy yz xz s0 s1 s2 l).gate0 ![a, b, c] 1 + (blobAt m0 m1 m2 xx yy zz xy yz xz s0 s1 s2 l).gate0 ![a, b, c] 2 := by
  pointwise [k0_pay2, k0_pay3, k0_pay4, k0_pay5, k0_pay6, k0_pay7, k0_pay8, k0_pay9, k0_pay10, k0_pay18, k0_pay29, k0_pay30, k0_pay31, k0_pay32, k0_pay33, k0_pay34, k0_pay36, k0_pay38, k0_pay40, k0_pay41, k0_pay42, k0_pay37, k0_pay39]
  simp only [hidden_value, bits_one, bits_two, bits_six]
  rfl

/-- The sixteen coefficient rows over the input rows. -/
def coefRows : Fin 16 → FVec Ideal S1x4096 .f32 :=
  rows (k0_pay19 (F := Ideal) (k0_pay11 (F := Ideal) yy zz yz) (k0_pay17 (F := Ideal) xx yy zz xy yz xz) (Named.named Cert.KernelIdeal.κ "neg_half_log2e" 0xBF38AA3B#32))
    (k0_pay20 (F := Ideal) (k0_pay12 (F := Ideal) zz xy yz xz) (k0_pay17 (F := Ideal) xx yy zz xy yz xz) (Named.named Cert.KernelIdeal.κ "neg_half_log2e" 0xBF38AA3B#32))
    (k0_pay21 (F := Ideal) (k0_pay13 (F := Ideal) yy xy yz xz) (k0_pay17 (F := Ideal) xx yy zz xy yz xz) (Named.named Cert.KernelIdeal.κ "neg_half_log2e" 0xBF38AA3B#32))
    (k0_pay22 (F := Ideal) (k0_pay14 (F := Ideal) xx zz xz) (k0_pay17 (F := Ideal) xx yy zz xy yz xz) (Named.named Cert.KernelIdeal.κ "neg_half_log2e" 0xBF38AA3B#32))
    (k0_pay23 (F := Ideal) (k0_pay15 (F := Ideal) xx xy yz xz) (k0_pay17 (F := Ideal) xx yy zz xy yz xz) (Named.named Cert.KernelIdeal.κ "neg_half_log2e" 0xBF38AA3B#32))
    (k0_pay24 (F := Ideal) (k0_pay16 (F := Ideal) xx yy xy) (k0_pay17 (F := Ideal) xx yy zz xy yz xz) (Named.named Cert.KernelIdeal.κ "neg_half_log2e" 0xBF38AA3B#32))
    (k0_pay25 (F := Ideal) (k0_pay2 (F := Ideal) m0) (k0_pay3 (F := Ideal) m1) (k0_pay4 (F := Ideal) m2) (k0_pay11 (F := Ideal) yy zz yz) (k0_pay12 (F := Ideal) zz xy yz xz) (k0_pay13 (F := Ideal) yy xy yz xz) (k0_pay17 (F := Ideal) xx yy zz xy yz xz) (Named.named Cert.KernelIdeal.κ "neg_half_log2e" 0xBF38AA3B#32))
    (k0_pay26 (F := Ideal) (k0_pay2 (F := Ideal) m0) (k0_pay3 (F := Ideal) m1) (k0_pay4 (F := Ideal) m2) (k0_pay12 (F := Ideal) zz xy yz xz) (k0_pay14 (F := Ideal) xx zz xz) (k0_pay15 (F := Ideal) xx xy yz xz) (k0_pay17 (F := Ideal) xx yy zz xy yz xz) (Named.named Cert.KernelIdeal.κ "neg_half_log2e" 0xBF38AA3B#32))
    (k0_pay27 (F := Ideal) (k0_pay2 (F := Ideal) m0) (k0_pay3 (F := Ideal) m1) (k0_pay4 (F := Ideal) m2) (k0_pay13 (F := Ideal) yy xy yz xz) (k0_pay15 (F := Ideal) xx xy yz xz) (k0_pay16 (F := Ideal) xx yy xy) (k0_pay17 (F := Ideal) xx yy zz xy yz xz) (Named.named Cert.KernelIdeal.κ "neg_half_log2e" 0xBF38AA3B#32))
    (k0_pay28 (F := Ideal) (k0_pay2 (F := Ideal) m0) (k0_pay3 (F := Ideal) m1) (k0_pay4 (F := Ideal) m2) (k0_pay11 (F := Ideal) yy zz yz) (k0_pay12 (F := Ideal) zz xy yz xz) (k0_pay13 (F := Ideal) yy xy yz xz) (k0_pay14 (F := Ideal) xx zz xz) (k0_pay15 (F := Ideal) xx xy yz xz) (k0_pay16 (F := Ideal) xx yy xy) (k0_pay17 (F := Ideal) xx yy zz xy yz xz) (Named.named Cert.KernelIdeal.κ "neg_half_log2e" 0xBF38AA3B#32))
    (k0_pay35 (F := Ideal))
    (k0_pay37 (F := Ideal) (k0_pay29 (k0_pay2 (F := Ideal) m0) a) (k0_pay32 (F := Ideal) s0) (k0_pay33 (F := Ideal) s1) s2)
    (k0_pay39 (F := Ideal) (k0_pay30 (k0_pay3 (F := Ideal) m1) b) (k0_pay32 (F := Ideal) s0) (k0_pay33 (F := Ideal) s1) s2)
    (k0_pay40 (F := Ideal) (k0_pay31 (k0_pay4 (F := Ideal) m2) c) (k0_pay32 (F := Ideal) s0) (k0_pay33 (F := Ideal) s1) s2)
    (k0_pay42 (F := Ideal) (k0_pay36 (k0_pay29 (F := Ideal) (k0_pay2 (F := Ideal) m0) a) (k0_pay32 (F := Ideal) s0) (k0_pay33 (F := Ideal) s1) s2) (k0_pay38 (F := Ideal) (k0_pay30 (k0_pay3 (F := Ideal) m1) b) (k0_pay32 (F := Ideal) s0) (k0_pay33 (F := Ideal) s1) s2) (k0_pay40 (F := Ideal) (k0_pay31 (k0_pay4 (F := Ideal) m2) c) (k0_pay32 (F := Ideal) s0) (k0_pay33 (F := Ideal) s1) s2))
    (k0_pay41 (F := Ideal) (k0_pay31 (k0_pay4 (F := Ideal) m2) c) (k0_pay32 (F := Ideal) s0) (k0_pay33 (F := Ideal) s1) s2)

/-- Column `l` of the coefficient rows holds the coefficients of Gaussian `l`. -/
theorem coefRows_at (k : Fin 16) (l : Fin 4096) : coefRows m0 m1 m2 xx yy zz xy yz xz s0 s1 s2 a b c k (ix2 (0 : Fin 1) l)
    = (blobAt m0 m1 m2 xx yy zz xy yz xz s0 s1 s2 l).coef ![a, b, c] k := by
  fin_vals k with hk
  all_goals (cases k; dsimp only at hk; subst hk)
  · exact inv_xx m0 m1 m2 xx yy zz xy yz xz s0 s1 s2 l
  · exact inv_yy m0 m1 m2 xx yy zz xy yz xz s0 s1 s2 l
  · exact inv_zz m0 m1 m2 xx yy zz xy yz xz s0 s1 s2 l
  · exact (congrArg₂ (fun p q : EReal => p * q) bits_two (inv_xy m0 m1 m2 xx yy zz xy yz xz s0 s1 s2 l))
  · exact (congrArg₂ (fun p q : EReal => p * q) bits_two (inv_yz m0 m1 m2 xx yy zz xy yz xz s0 s1 s2 l))
  · exact (congrArg₂ (fun p q : EReal => p * q) bits_two (inv_xz m0 m1 m2 xx yy zz xy yz xz s0 s1 s2 l))
  · exact (congrArg₂ (fun p q : EReal => p * q) bits_neg_two (inv_mean_x m0 m1 m2 xx yy zz xy yz xz s0 s1 s2 l))
  · exact (congrArg₂ (fun p q : EReal => p * q) bits_neg_two (inv_mean_y m0 m1 m2 xx yy zz xy yz xz s0 s1 s2 l))
  · exact (congrArg₂ (fun p q : EReal => p * q) bits_neg_two (inv_mean_z m0 m1 m2 xx yy zz xy yz xz s0 s1 s2 l))
  · exact quad_at m0 m1 m2 xx yy zz xy yz xz s0 s1 s2 l
  · exact gate0_sum m0 m1 m2 xx yy zz xy yz xz s0 s1 s2 a b c l
  · exact gate1_x m0 m1 m2 xx yy zz xy yz xz s0 s1 s2 a b c l
  · exact gate1_y m0 m1 m2 xx yy zz xy yz xz s0 s1 s2 a b c l
  · exact gate1_z m0 m1 m2 xx yy zz xy yz xz s0 s1 s2 a b c l
  · exact Ideal.ofBits_zero_f32
  · exact Ideal.ofBits_zero_f32

/-- The coefficients' buffer over the input rows. -/
def coefs : FVec Ideal S48x4096 .bf16 := stack48 (stack16 (coefRows m0 m1 m2 xx yy zz xy yz xz s0 s1 s2 a b c))

/-- The product of a point's features with a Gaussian's coefficients is the exponent. -/
theorem exponent_sum (v3 v5 v7 : FVec Ideal S1x8192 .f32) (q : Fin 8192) (l : Fin 4096) :
    ∑ r : Fin 48, k0_pay45 (F := Ideal) v3 v5 v7 a b c (ix2 r q) * coefs m0 m1 m2 xx yy zz xy yz xz s0 s1 s2 a b c (ix2 r l)
      = exponent (pointAt v3 v5 v7 q) ![a, b, c] (blobAt m0 m1 m2 xx yy zz xy yz xz s0 s1 s2 l) := by
  rw [show (∑ r : Fin 48, k0_pay45 (F := Ideal) v3 v5 v7 a b c (ix2 r q) * coefs m0 m1 m2 xx yy zz xy yz xz s0 s1 s2 a b c (ix2 r l) : EReal)
    = ∑ r : Fin (16 + 16 + 16), k0_pay45 (F := Ideal) v3 v5 v7 a b c (ix2 r q) * coefs m0 m1 m2 xx yy zz xy yz xz s0 s1 s2 a b c (ix2 r l) from rfl,
    Fin.sum_univ_add, Fin.sum_univ_add]
  unfold exponent
  refine congrArg₂ (· + ·) (congrArg₂ (· + ·) (Finset.sum_congr rfl fun k _ => ?_) (Finset.sum_congr rfl fun k _ => ?_))
    (Finset.sum_congr rfl fun k _ => ?_)
  · exact congrArg₂ (fun x y : EReal => x * y) (feat_first v3 v5 v7 a b c k q) ((stack48_first _ k l).trans ((stack16_at _ k l).trans (coefRows_at m0 m1 m2 xx yy zz xy yz xz s0 s1 s2 a b c k l)))
  · exact congrArg₂ (fun x y : EReal => x * y) (feat_second v3 v5 v7 a b c k q) ((stack48_second _ k l).trans
      (congrArg₂ (fun x y : EReal => x - y) ((stack16_at _ k l).trans (coefRows_at m0 m1 m2 xx yy zz xy yz xz s0 s1 s2 a b c k l))
        ((stack16_at _ k l).trans (coefRows_at m0 m1 m2 xx yy zz xy yz xz s0 s1 s2 a b c k l))))
  · exact congrArg₂ (fun x y : EReal => x * y) (feat_third v3 v5 v7 a b c k q) ((stack48_third _ k l).trans ((stack16_at _ k l).trans (coefRows_at m0 m1 m2 xx yy zz xy yz xz s0 s1 s2 a b c k l)))

/-- The kernel's two products at point `q` and column `y`, over any features and coefficients. -/
theorem pay1_form (v40 : FVec Ideal S48x8192 .bf16) (v41 : FVec Ideal S48x4096 .bf16) (v46 : FVec Ideal S4096x16 .fp8e4m3)
    (q : Fin 8192) (y : Fin 16) : k0_pay1 (F := Ideal) v40 v41 v46 (ix2 q y)
      = ∑ l : Fin 4096, Ideal.exp2 (∑ r : Fin 48, v40 (ix2 r q) * v41 (ix2 r l)) * v46 (ix2 l y) := by
  pointwise [k0_pay1]
  rfl

/-- What the kernel stores at point `q` and column `y`: the sum of the opacities, each by its Gaussian's exponent. -/
theorem pay1_at (v3 v5 v7 : FVec Ideal S1x8192 .f32) (v46 : FVec Ideal S4096x16 .fp8e4m3) (q : Fin 8192) (y : Fin 16) :
    k0_pay1 (F := Ideal) (k0_pay45 (F := Ideal) v3 v5 v7 a b c) (coefs m0 m1 m2 xx yy zz xy yz xz s0 s1 s2 a b c) v46 (ix2 q y)
      = ∑ l : Fin 4096, Ideal.exp2 (exponent (pointAt v3 v5 v7 q) ![a, b, c] (blobAt m0 m1 m2 xx yy zz xy yz xz s0 s1 s2 l)) * v46 (ix2 l y) :=
  (pay1_form _ _ v46 q y).trans (Finset.sum_congr rfl fun l _ => congrArg (fun e : EReal => Ideal.exp2 e * v46 (ix2 l y))
    (exponent_sum m0 m1 m2 xx yy zz xy yz xz s0 s1 s2 a b c v3 v5 v7 q l))

end Cert.Splat

end
-- ==== Proof.Block.lean ====
/- The rows the kernel loads from its blocks, as entries of the arguments' arrays. -/
module

public import proofs.«01_k».proof.Proof.Coef
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Splat

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Where the windows' blocks lie. -/
theorem idx : ∀ t : Fin cfg0.N, win0_0.index t = ![0] ∧ win0_1.index t = ![0, t.val] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The transpose of a list of vectors, entry by entry. -/
theorem turn_rows (x : FVec Ideal S4096x3 .f32) (i : Fin 3) (l : Fin 4096) :
    transpose S3x4096 [1, 0] x transposes_S4096x3_S3x4096_1_0 (ix2 i l) = x (ix2 l i) := by
  pointwise

/-- The transpose of the list of points, entry by entry. -/
theorem turn_points (x : FVec Ideal S16384x3 .f32) (i : Fin 3) (p : Fin 16384) :
    transpose S3x16384 [1, 0] x transposes_S16384x3_S3x16384_1_0 (ix2 i p) = x (ix2 p i) := by
  pointwise

/-- The covariances, flattened and transposed: row `i` holds the entry `(i / 3, i % 3)`. -/
theorem turn_cov (x : FVec Ideal S4096x3x3 .f32) (i : Fin 9) (l : Fin 4096) :
    transpose S9x4096 [1, 0] (shapeCast S4096x9 x shapeCasts_S4096x3x3_S4096x9) transposes_S4096x9_S9x4096_1_0 (ix2 i l)
      = x (ix3 l (⟨i.val / 3, by omega⟩ : Fin 3) (⟨i.val % 3, by omega⟩ : Fin 3)) := by
  pointwise

/-- The transposed means. -/
theorem entry_mean (i : Fin 3) (l : Fin 4096) : V m c main_call0_v1 (ix2 i l) = m ((c : Thread nD τ).loc main_arg1) (ix2 l i) := by
  entry_read
  exact turn_rows _ i l

/-- The transposed scales. -/
theorem entry_scale (i : Fin 3) (l : Fin 4096) : V m c main_call0_v4 (ix2 i l) = m ((c : Thread nD τ).loc main_arg3) (ix2 l i) := by
  entry_read
  exact turn_rows _ i l

/-- The transposed points. -/
theorem entry_point (i : Fin 3) (p : Fin 16384) : V m c main_call0_v0 (ix2 i p) = m ((c : Thread nD τ).loc main_arg0) (ix2 p i) := by
  entry_read
  exact turn_points _ i p

/-- The transposed covariances, nine entries to a Gaussian. -/
theorem entry_cov (i : Fin 9) (l : Fin 4096) : V m c main_call0_v3 (ix2 i l)
    = m ((c : Thread nD τ).loc main_arg4) (ix3 l (⟨i.val / 3, by omega⟩ : Fin 3) (⟨i.val % 3, by omega⟩ : Fin 3)) := by
  entry_read
  exact turn_cov _ i l

/-! ### The rows the kernel loads -/

/-- The origin's coordinates, as the kernel loads them. -/
def originAt (t : Fin cfg0.N) : Fin 3 → Ideal .f32 :=
  ![View.ld (iblk m c 0 t) (Rect.unit (s := S3) ![0] ![1] inb_S3_S1_0) (Shape.Idx.first Nat.one_pos),
    View.ld (iblk m c 0 t) (Rect.unit (s := S3) ![1] ![1] inb_S3_S1_1) (Shape.Idx.first Nat.one_pos),
    View.ld (iblk m c 0 t) (Rect.unit (s := S3) ![2] ![1] inb_S3_S1_2) (Shape.Idx.first Nat.one_pos)]

/-- The block's first coordinates. -/
def ptRow0 (t : Fin cfg0.N) : FVec Ideal S1x8192 .f32 :=
  View.ld (iblk m c 1 t) (Rect.unit (s := S3x8192) ![0, 0] S1x8192.size inb_S3x8192_S1x8192_0_0)

/-- The block's second coordinates. -/
def ptRow1 (t : Fin cfg0.N) : FVec Ideal S1x8192 .f32 :=
  View.ld (iblk m c 1 t) (Rect.unit (s := S3x8192) ![1, 0] S1x8192.size inb_S3x8192_S1x8192_1_0)

/-- The block's third coordinates. -/
def ptRow2 (t : Fin cfg0.N) : FVec Ideal S1x8192 .f32 :=
  View.ld (iblk m c 1 t) (Rect.unit (s := S3x8192) ![2, 0] S1x8192.size inb_S3x8192_S1x8192_2_0)

/-- The means' first coordinates. -/
def meanRow0 (t : Fin cfg0.N) : FVec Ideal S1x4096 .f32 :=
  View.ld (iblk m c 2 t) (Rect.unit (s := S3x4096) ![0, 0] S1x4096.size inb_S3x4096_S1x4096_0_0)

/-- The means' second coordinates. -/
def meanRow1 (t : Fin cfg0.N) : FVec Ideal S1x4096 .f32 :=
  View.ld (iblk m c 2 t) (Rect.unit (s := S3x4096) ![1, 0] S1x4096.size inb_S3x4096_S1x4096_1_0)

/-- The means' third coordinates. -/
def meanRow2 (t : Fin cfg0.N) : FVec Ideal S1x4096 .f32 :=
  View.ld (iblk m c 2 t) (Rect.unit (s := S3x4096) ![2, 0] S1x4096.size inb_S3x4096_S1x4096_2_0)

/-- Entry (0, 0) of the covariances. -/
def covRow0 (t : Fin cfg0.N) : FVec Ideal S1x4096 .f32 :=
  View.ld (iblk m c 3 t) (Rect.unit (s := S9x4096) ![0, 0] S1x4096.size inb_S9x4096_S1x4096_0_0)

/-- Entry (1, 1) of the covariances. -/
def covRow4 (t : Fin cfg0.N) : FVec Ideal S1x4096 .f32 :=
  View.ld (iblk m c 3 t) (Rect.unit (s := S9x4096) ![4, 0] S1x4096.size inb_S9x4096_S1x4096_4_0)

/-- Entry (2, 2) of the covariances. -/
def covRow8 (t : Fin cfg0.N) : FVec Ideal S1x4096 .f32 :=
  View.ld (iblk m c 3 t) (Rect.unit (s := S9x4096) ![8, 0] S1x4096.size inb_S9x4096_S1x4096_8_0)

/-- Entry (0, 1) of the covariances. -/
def covRow1 (t : Fin cfg0.N) : FVec Ideal S1x4096 .f32 :=
  View.ld (iblk m c 3 t) (Rect.unit (s := S9x4096) ![1, 0] S1x4096.size inb_S9x4096_S1x4096_1_0)

/-- Entry (1, 2) of the covariances. -/
def covRow5 (t : Fin cfg0.N) : FVec Ideal S1x4096 .f32 :=
  View.ld (iblk m c 3 t) (Rect.unit (s := S9x4096) ![5, 0] S1x4096.size inb_S9x4096_S1x4096_5_0)

/-- Entry (0, 2) of the covariances. -/
def covRow2 (t : Fin cfg0.N) : FVec Ideal S1x4096 .f32 :=
  View.ld (iblk m c 3 t) (Rect.unit (s := S9x4096) ![2, 0] S1x4096.size inb_S9x4096_S1x4096_2_0)

/-- The first scales. -/
def scaleRow0 (t : Fin cfg0.N) : FVec Ideal S1x4096 .f32 :=
  View.ld (iblk m c 4 t) (Rect.unit (s := S3x4096) ![0, 0] S1x4096.size inb_S3x4096_S1x4096_0_0)

/-- The second scales. -/
def scaleRow1 (t : Fin cfg0.N) : FVec Ideal S1x4096 .f32 :=
  View.ld (iblk m c 4 t) (Rect.unit (s := S3x4096) ![1, 0] S1x4096.size inb_S3x4096_S1x4096_1_0)

/-- The third scales. -/
def scaleRow2 (t : Fin cfg0.N) : FVec Ideal S1x4096 .f32 :=
  View.ld (iblk m c 4 t) (Rect.unit (s := S3x4096) ![2, 0] S1x4096.size inb_S3x4096_S1x4096_2_0)

/-- A step's points are among the points. -/
theorem points_lt (t : Fin cfg0.N) (q : Fin 8192) : t.val * 8192 + q.val < 16384 := by
  have h : t.val < cfg0.N := t.isLt
  have e : cfg0.N = 2 := N_0
  omega

/-- The number of point `q` of block `t`. -/
def ptOf (t : Fin cfg0.N) (q : Fin 8192) : Fin 16384 := ⟨t.val * 8192 + q.val, points_lt t q⟩

/-- One row loaded from a three-row block. -/
theorem load_rows (x : FVec Ideal S3x4096 .f32) (k : Fin 3) (inb) (l : Fin 4096) :
    View.ld (Val := Elt Ideal) (e' := .f32) x (Rect.unit (s := S3x4096) ![k.val, 0] S1x4096.size inb) (ix2 (0 : Fin 1) l) = x (ix2 k l) := by
  refine View.ld_unit_apply_of _ _ _ _ _ (ix2 k l) fun a => ?_
  match a with
  | ⟨0, _⟩ => rfl
  | ⟨1, _⟩ => exact (Nat.zero_add _).symm

/-- One row loaded from the block of covariances. -/
theorem load_cov (x : FVec Ideal S9x4096 .f32) (k : Fin 9) (inb) (l : Fin 4096) :
    View.ld (Val := Elt Ideal) (e' := .f32) x (Rect.unit (s := S9x4096) ![k.val, 0] S1x4096.size inb) (ix2 (0 : Fin 1) l) = x (ix2 k l) := by
  refine View.ld_unit_apply_of _ _ _ _ _ (ix2 k l) fun a => ?_
  match a with
  | ⟨0, _⟩ => rfl
  | ⟨1, _⟩ => exact (Nat.zero_add _).symm

/-- One row loaded from a block of points. -/
theorem load_points (x : FVec Ideal S3x8192 .f32) (k : Fin 3) (inb) (l : Fin 8192) :
    View.ld (Val := Elt Ideal) (e' := .f32) x (Rect.unit (s := S3x8192) ![k.val, 0] S1x8192.size inb) (ix2 (0 : Fin 1) l) = x (ix2 k l) := by
  refine View.ld_unit_apply_of _ _ _ _ _ (ix2 k l) fun a => ?_
  match a with
  | ⟨0, _⟩ => rfl
  | ⟨1, _⟩ => exact (Nat.zero_add _).symm

/-- One coordinate of the origin, loaded as a scalar. -/
theorem load_origin (x : FVec Ideal S3 .f32) (k : Fin 3) (inb) (h) :
   View.ld (Val := Elt Ideal) (e' := .f32) x (Rect.unit (s := S3) ![k.val] ![1] inb) (Shape.Idx.first h) = x (ix1 k) := by
  refine View.ld_unit_apply_of _ _ _ _ _ (ix1 k) fun a => ?_
  match a with
  | ⟨0, _⟩ => rfl

/-- Every step's block of means is the whole transposed array. -/
theorem block_mean (t : Fin cfg0.N) (i : Fin 3) (l : Fin 4096) : iblk m c 2 t (ix2 i l) = V m c main_call0_v1 (ix2 i l) := by
  blk_ext [iblk, idx t]

/-- Every step's block of covariances is the whole transposed array. -/
theorem block_cov (t : Fin cfg0.N) (i : Fin 9) (l : Fin 4096) : iblk m c 3 t (ix2 i l) = V m c main_call0_v3 (ix2 i l) := by
  blk_ext [iblk, idx t]

/-- Every step's block of scales is the whole transposed array. -/
theorem block_scale (t : Fin cfg0.N) (i : Fin 3) (l : Fin 4096) : iblk m c 4 t (ix2 i l) = V m c main_call0_v4 (ix2 i l) := by
  blk_ext [iblk, idx t]

/-- A step's block of points is its part of the transposed array. -/
theorem block_point (t : Fin cfg0.N) (i : Fin 3) (q : Fin 8192) :
    iblk m c 1 t (ix2 i q) = V m c main_call0_v0 (ix2 i (ptOf t q)) := by
  blk_ext [iblk, idx t, ptOf]

/-- Every step's origin is the argument. -/
theorem block_origin (t : Fin cfg0.N) (i : Fin 3) : iblk m c 0 t (ix1 i) = m ((c : Thread nD τ).loc main_arg5) (ix1 i) := by
  blk_ext [iblk, V, idx t]

/-- The block of opacities is the whole array. -/
theorem block_opacity (t : Fin cfg0.N) (l : Fin 4096) (y : Fin 16) : iblk m c 5 t (ix2 l y) = m ((c : Thread nD τ).loc main_arg2) (ix2 l y) := by
  blk_ext [iblk, V, idx t]

/-- Row 0 of the points, as the body loads it, in the argument's terms. -/
theorem ptRow0_at (t : Fin cfg0.N) (q : Fin 8192) : ptRow0 m c t (ix2 (0 : Fin 1) q) = m ((c : Thread nD τ).loc main_arg0) (ix2 (ptOf t q) (0 : Fin 3)) :=
  (load_points _ 0 _ q).trans ((block_point m c t 0 q).trans (entry_point m c 0 (ptOf t q)))

/-- Row 1 of the points, as the body loads it, in the argument's terms. -/
theorem ptRow1_at (t : Fin cfg0.N) (q : Fin 8192) : ptRow1 m c t (ix2 (0 : Fin 1) q) = m ((c : Thread nD τ).loc main_arg0) (ix2 (ptOf t q) (1 : Fin 3)) :=
  (load_points _ 1 _ q).trans ((block_point m c t 1 q).trans (entry_point m c 1 (ptOf t q)))

/-- Row 2 of the points, as the body loads it, in the argument's terms. -/
theorem ptRow2_at (t : Fin cfg0.N) (q : Fin 8192) : ptRow2 m c t (ix2 (0 : Fin 1) q) = m ((c : Thread nD τ).loc main_arg0) (ix2 (ptOf t q) (2 : Fin 3)) :=
  (load_points _ 2 _ q).trans ((block_point m c t 2 q).trans (entry_point m c 2 (ptOf t q)))

/-- Row 0 of the means, as the body loads it, in the argument's terms. -/
theorem meanRow0_at (t : Fin cfg0.N) (l : Fin 4096) : meanRow0 m c t (ix2 (0 : Fin 1) l) = m ((c : Thread nD τ).loc main_arg1) (ix2 l (0 : Fin 3)) :=
  (load_rows _ 0 _ l).trans ((block_mean m c t 0 l).trans (entry_mean m c 0 l))

/-- Row 1 of the means, as the body loads it, in the argument's terms. -/
theorem meanRow1_at (t : Fin cfg0.N) (l : Fin 4096) : meanRow1 m c t (ix2 (0 : Fin 1) l) = m ((c : Thread nD τ).loc main_arg1) (ix2 l (1 : Fin 3)) :=
  (load_rows _ 1 _ l).trans ((block_mean m c t 1 l).trans (entry_mean m c 1 l))

/-- Row 2 of the means, as the body loads it, in the argument's terms. -/
theorem meanRow2_at (t : Fin cfg0.N) (l : Fin 4096) : meanRow2 m c t (ix2 (0 : Fin 1) l) = m ((c : Thread nD τ).loc main_arg1) (ix2 l (2 : Fin 3)) :=
  (load_rows _ 2 _ l).trans ((block_mean m c t 2 l).trans (entry_mean m c 2 l))

/-- Row 0 of the covariances, as the body loads it, in the argument's terms. -/
theorem covRow0_at (t : Fin cfg0.N) (l : Fin 4096) : covRow0 m c t (ix2 (0 : Fin 1) l) = m ((c : Thread nD τ).loc main_arg4) (ix3 l (0 : Fin 3) (0 : Fin 3)) :=
  (load_cov _ 0 _ l).trans ((block_cov m c t 0 l).trans (entry_cov m c 0 l))

/-- Row 4 of the covariances, as the body loads it, in the argument's terms. -/
theorem covRow4_at (t : Fin cfg0.N) (l : Fin 4096) : covRow4 m c t (ix2 (0 : Fin 1) l) = m ((c : Thread nD τ).loc main_arg4) (ix3 l (1 : Fin 3) (1 : Fin 3)) :=
  (load_cov _ 4 _ l).trans ((block_cov m c t 4 l).trans (entry_cov m c 4 l))

/-- Row 8 of the covariances, as the body loads it, in the argument's terms. -/
theorem covRow8_at (t : Fin cfg0.N) (l : Fin 4096) : covRow8 m c t (ix2 (0 : Fin 1) l) = m ((c : Thread nD τ).loc main_arg4) (ix3 l (2 : Fin 3) (2 : Fin 3)) :=
  (load_cov _ 8 _ l).trans ((block_cov m c t 8 l).trans (entry_cov m c 8 l))

/-- Row 1 of the covariances, as the body loads it, in the argument's terms. -/
theorem covRow1_at (t : Fin cfg0.N) (l : Fin 4096) : covRow1 m c t (ix2 (0 : Fin 1) l) = m ((c : Thread nD τ).loc main_arg4) (ix3 l (0 : Fin 3) (1 : Fin 3)) :=
  (load_cov _ 1 _ l).trans ((block_cov m c t 1 l).trans (entry_cov m c 1 l))

/-- Row 5 of the covariances, as the body loads it, in the argument's terms. -/
theorem covRow5_at (t : Fin cfg0.N) (l : Fin 4096) : covRow5 m c t (ix2 (0 : Fin 1) l) = m ((c : Thread nD τ).loc main_arg4) (ix3 l (1 : Fin 3) (2 : Fin 3)) :=
  (load_cov _ 5 _ l).trans ((block_cov m c t 5 l).trans (entry_cov m c 5 l))

/-- Row 2 of the covariances, as the body loads it, in the argument's terms. -/
theorem covRow2_at (t : Fin cfg0.N) (l : Fin 4096) : covRow2 m c t (ix2 (0 : Fin 1) l) = m ((c : Thread nD τ).loc main_arg4) (ix3 l (0 : Fin 3) (2 : Fin 3)) :=
  (load_cov _ 2 _ l).trans ((block_cov m c t 2 l).trans (entry_cov m c 2 l))

/-- Row 0 of the scales, as the body loads it, in the argument's terms. -/
theorem scaleRow0_at (t : Fin cfg0.N) (l : Fin 4096) : scaleRow0 m c t (ix2 (0 : Fin 1) l) = m ((c : Thread nD τ).loc main_arg3) (ix2 l (0 : Fin 3)) :=
  (load_rows _ 0 _ l).trans ((block_scale m c t 0 l).trans (entry_scale m c 0 l))

/-- Row 1 of the scales, as the body loads it, in the argument's terms. -/
theorem scaleRow1_at (t : Fin cfg0.N) (l : Fin 4096) : scaleRow1 m c t (ix2 (0 : Fin 1) l) = m ((c : Thread nD τ).loc main_arg3) (ix2 l (1 : Fin 3)) :=
  (load_rows _ 1 _ l).trans ((block_scale m c t 1 l).trans (entry_scale m c 1 l))

/-- Row 2 of the scales, as the body loads it, in the argument's terms. -/
theorem scaleRow2_at (t : Fin cfg0.N) (l : Fin 4096) : scaleRow2 m c t (ix2 (0 : Fin 1) l) = m ((c : Thread nD τ).loc main_arg3) (ix2 l (2 : Fin 3)) :=
  (load_rows _ 2 _ l).trans ((block_scale m c t 2 l).trans (entry_scale m c 2 l))

/-- The origin's coordinates, as the body loads them, are the argument's. -/
theorem originAt_at (t : Fin cfg0.N) (i : Fin 3) : originAt m c t i = m ((c : Thread nD τ).loc main_arg5) (ix1 i) := by
  fin_vals i with hi
  all_goals (cases i; dsimp only at hi; subst hi)
  · exact (load_origin _ 0 _ _).trans (block_origin m c t 0)
  · exact (load_origin _ 1 _ _).trans (block_origin m c t 1)
  · exact (load_origin _ 2 _ _).trans (block_origin m c t 2)

end Cert.Splat

end
-- ==== Proof.Array.lean ====
/- What the two grid points leave, and the array they write: the coefficients stay in the scratch of the first point. -/
module

public import proofs.«01_k».proof.Proof.Block

@[expose] public section

set_option maxRecDepth 16384

noncomputable section

namespace Cert.Splat

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The coefficient columns depend on their sixteen operands alone. -/
theorem congr_rows {v92 w92 v93 w93 v94 w94 v95 w95 v96 w96 v97 w97 v102 w102 v107 w107 v112 w112 v117 w117 v147 w147 v160 w160 v173 w173 v178 w178 v200 w200 : FVec Ideal S1x4096 .f32} {v182 w182 : IVec S1x4096 1}
    (h92 : v92 = w92) (h93 : v93 = w93) (h94 : v94 = w94) (h95 : v95 = w95) (h96 : v96 = w96) (h97 : v97 = w97) (h102 : v102 = w102) (h107 : v107 = w107) (h112 : v112 = w112) (h117 : v117 = w117) (h147 : v147 = w147) (h160 : v160 = w160) (h173 : v173 = w173) (h178 : v178 = w178) (h200 : v200 = w200) (h182 : v182 = w182) :
    rows v92 v93 v94 v95 v96 v97 v102 v107 v112 v117 v147 v160 v173 v178 v200 v182 = rows w92 w93 w94 w95 w96 w97 w102 w107 w112 w117 w147 w160 w173 w178 w200 w182 := by
  subst h92 h93 h94 h95 h96 h97 h102 h107 h112 h117 h147 h160 h173 h178 h200 h182
  rfl

/-- The coefficients' buffer, from the blocks of point `t`. -/
def coefsAt (t : Fin cfg0.N) : FVec Ideal S48x4096 .bf16 :=
  coefs (meanRow0 m c t) (meanRow1 m c t) (meanRow2 m c t) (covRow0 m c t) (covRow4 m c t) (covRow8 m c t)
    (covRow1 m c t) (covRow5 m c t) (covRow2 m c t) (scaleRow0 m c t) (scaleRow1 m c t) (scaleRow2 m c t)
    (originAt m c t 0) (originAt m c t 1) (originAt m c t 2)

/-- The features' buffer, from the blocks of point `t`. -/
def featsAt (t : Fin cfg0.N) : FVec Ideal S48x8192 .bf16 :=
  k0_pay45 (F := Ideal) (ptRow0 m c t) (ptRow1 m c t) (ptRow2 m c t) (originAt m c t 0) (originAt m c t 1) (originAt m c t 2)

/-- The opacities as the kernel keeps them. -/
def opacAt (t : Fin cfg0.N) : FVec Ideal S4096x16 .fp8e4m3 := k0_pay44 (F := Ideal) (iblk m c 5 t)

/-- The first point leaves the coefficients in the first scratch. -/
theorem scratch0_A (t : Fin cfg0.N) (h : t.val % 2 = 0) : (outsAt0 m c t.val t.isLt).2.1 = coefsAt m c t := by
  rw [outsAt0_A m c t h]
  frame_out
  refine (pay43_eq _ _ _ _ _ _ _ _ _ _ _ _ _ _ _ _).trans ?_
  unfold coefsAt coefs coefRows
  refine congrArg (fun f => stack48 (stack16 f)) ?_
  refine congr_rows ?_ ?_ ?_ ?_ ?_ ?_ ?_ ?_ ?_ ?_ ?_ ?_ ?_ ?_ ?_ ?_
  all_goals rfl

/-- The first point leaves the opacities in the second scratch. -/
theorem scratch1_A (t : Fin cfg0.N) (h : t.val % 2 = 0) : (outsAt0 m c t.val t.isLt).2.2 = opacAt m c t := by
  rw [outsAt0_A m c t h]
  frame_out
  rfl

/-- The stored product depends on its three operands alone. -/
theorem congr_pay1 {f f' : FVec Ideal S48x8192 .bf16} {k k' : FVec Ideal S48x4096 .bf16} {o o' : FVec Ideal S4096x16 .fp8e4m3}
    (hf : f = f') (hk : k = k') (ho : o = o') : k0_pay1 (F := Ideal) f k o = k0_pay1 (F := Ideal) f' k' o' := by
  subst hf hk ho
  rfl

/-- The first point writes the two products over the buffers it has just filled. -/
theorem out_A (t : Fin cfg0.N) (h : t.val % 2 = 0) :
    (outsAt0 m c t.val t.isLt).1 = k0_pay1 (F := Ideal) (featsAt m c t) (coefsAt m c t) (opacAt m c t) := by
  rw [outsAt0_A m c t h]
  frame_out
  refine congr_pay1 rfl ((pay43_eq _ _ _ _ _ _ _ _ _ _ _ _ _ _ _ _).trans ?_) rfl
  unfold coefsAt coefs coefRows
  refine congrArg (fun f => stack48 (stack16 f)) ?_
  refine congr_rows ?_ ?_ ?_ ?_ ?_ ?_ ?_ ?_ ?_ ?_ ?_ ?_ ?_ ?_ ?_ ?_
  all_goals rfl

/-- The second point writes the two products over the buffers the first point left. -/
theorem out_B (t : Fin cfg0.N) (h : ¬t.val % 2 = 0) (hb) :
    (outsAt0 m c t.val t.isLt).1 = k0_pay1 (F := Ideal) (featsAt m c t)
      (outsAt0 m c (t.val - 1) hb).2.1 (outsAt0 m c (t.val - 1) hb).2.2 := by
  rw [outsAt0_B m c t h]
  frame_out
  exact congr_pay1 rfl (Memref.IsWhole.read_unread _ _) (Memref.IsWhole.read_unread _ _)

/-- The Gaussian of column `l`, from the blocks. -/
def blobOf (t : Fin cfg0.N) (l : Fin 4096) : Blob :=
  blobAt (meanRow0 m c t) (meanRow1 m c t) (meanRow2 m c t) (covRow0 m c t) (covRow4 m c t) (covRow8 m c t)
    (covRow1 m c t) (covRow5 m c t) (covRow2 m c t) (scaleRow0 m c t) (scaleRow1 m c t) (scaleRow2 m c t) l

/-- Gaussian `l` of the arguments. -/
def gauss (l : Fin 4096) : Blob where
  mean := fun i => m ((c : Thread nD τ).loc main_arg1) (ix2 l i)
  xx := m ((c : Thread nD τ).loc main_arg4) (ix3 l (0 : Fin 3) (0 : Fin 3))
  yy := m ((c : Thread nD τ).loc main_arg4) (ix3 l (1 : Fin 3) (1 : Fin 3))
  zz := m ((c : Thread nD τ).loc main_arg4) (ix3 l (2 : Fin 3) (2 : Fin 3))
  xy := m ((c : Thread nD τ).loc main_arg4) (ix3 l (0 : Fin 3) (1 : Fin 3))
  yz := m ((c : Thread nD τ).loc main_arg4) (ix3 l (1 : Fin 3) (2 : Fin 3))
  xz := m ((c : Thread nD τ).loc main_arg4) (ix3 l (0 : Fin 3) (2 : Fin 3))
  scale := fun i => m ((c : Thread nD τ).loc main_arg3) (ix2 l i)

/-- Point `p` of the arguments. -/
def point (p : Fin 16384) : Fin 3 → EReal := fun i => m ((c : Thread nD τ).loc main_arg0) (ix2 p i)

/-- The origin of the arguments. -/
def origin : Fin 3 → EReal := fun i => m ((c : Thread nD τ).loc main_arg5) (ix1 i)

/-- A vector of three is the list of its entries. -/
theorem vec3 (f : Fin 3 → EReal) : ![f 0, f 1, f 2] = f := by
  funext i
  fin_cases i <;> rfl

/-- The Gaussian that a step reads in its blocks is the one in the arguments. -/
theorem blobOf_eq (t : Fin cfg0.N) (l : Fin 4096) : blobOf m c t l = gauss m c l := by
  unfold blobOf blobAt gauss
  rw [meanRow0_at, meanRow1_at, meanRow2_at, covRow0_at, covRow4_at, covRow8_at, covRow1_at, covRow5_at, covRow2_at,
    scaleRow0_at, scaleRow1_at, scaleRow2_at]
  refine congrArg₂ (fun p s => Blob.mk p _ _ _ _ _ _ s) (vec3 fun i => m ((c : Thread nD τ).loc main_arg1) (ix2 l i))
    (vec3 fun i => m ((c : Thread nD τ).loc main_arg3) (ix2 l i))

/-- The point that a step reads in its blocks is the one in the arguments, counted from the step's first. -/
theorem pointAt_eq (t : Fin cfg0.N) (q : Fin 8192) :
    pointAt (ptRow0 m c t) (ptRow1 m c t) (ptRow2 m c t) q = point m c (ptOf t q) := by
  unfold pointAt
  rw [ptRow0_at, ptRow1_at, ptRow2_at]
  exact vec3 fun i => m ((c : Thread nD τ).loc main_arg0) (ix2 (ptOf t q) i)

/-- The origin that a step reads is the argument. -/
theorem originAt_eq (t : Fin cfg0.N) : ![originAt m c t 0, originAt m c t 1, originAt m c t 2] = origin m c := by
  rw [originAt_at, originAt_at, originAt_at]
  exact vec3 fun i => m ((c : Thread nD τ).loc main_arg5) (ix1 i)

/-- The opacities that a step reads are the argument. -/
theorem opacAt_at (t : Fin cfg0.N) (l : Fin 4096) (y : Fin 16) :
    opacAt m c t (ix2 l y) = m ((c : Thread nD τ).loc main_arg2) (ix2 l y) := by
  refine Eq.trans ?_ (block_opacity m c t l y)
  unfold opacAt
  generalize iblk m c 5 t = x
  pointwise [k0_pay44]

/-- The two products at point `q` of block `t`: the sum over the Gaussians of the arguments. -/
theorem block_value (t : Fin cfg0.N) (t' : Fin cfg0.N) (q : Fin 8192) (y : Fin 16) :
    k0_pay1 (F := Ideal) (featsAt m c t) (coefsAt m c t') (opacAt m c t') (ix2 q y)
      = ∑ l : Fin 4096, Ideal.exp2 (exponent (point m c (ptOf t q)) (origin m c) (gauss m c l))
          * m ((c : Thread nD τ).loc main_arg2) (ix2 l y) := by
  have e : ∀ i, originAt m c t i = originAt m c t' i := fun i => (originAt_at m c t i).trans (originAt_at m c t' i).symm
  unfold featsAt coefsAt
  rw [e 0, e 1, e 2]
  refine (pay1_at _ _ _ _ _ _ _ _ _ _ _ _ _ _ _ _ _ _ _ q y).trans (Finset.sum_congr rfl fun l _ => ?_)
  refine congrArg₂ (fun x z : EReal => Ideal.exp2 x * z) ?_ (opacAt_at m c t' l y)
  rw [pointAt_eq, originAt_eq]
  exact congrArg (exponent _ _) (blobOf_eq m c t' l)

/-- What point `t` of the grid writes, at point `q` of its block. -/
theorem outs_value (t : Fin cfg0.N) (q : Fin 8192) (y : Fin 16) : (outsAt0 m c t.val t.isLt).1 (ix2 q y)
      = ∑ l : Fin 4096, Ideal.exp2 (exponent (point m c (ptOf t q)) (origin m c) (gauss m c l))
          * m ((c : Thread nD τ).loc main_arg2) (ix2 l y) := by
  by_cases h : t.val % 2 = 0
  · rw [out_A m c t h]
    exact block_value m c t t q y
  · have hN : t.val < 2 := lt_of_lt_of_eq t.isLt N_0
    have hb : t.val - 1 < cfg0.N := Nat.lt_of_le_of_lt (Nat.sub_le _ _) t.isLt
    have h0 : (⟨t.val - 1, hb⟩ : Fin cfg0.N).val % 2 = 0 := by dsimp only; omega
    have e0 := scratch0_A m c ⟨t.val - 1, hb⟩ h0
    have e1 := scratch1_A m c ⟨t.val - 1, hb⟩ h0
    rw [out_B m c t h hb]
    refine Eq.trans ?_ (block_value m c t ⟨t.val - 1, hb⟩ q y)
    exact congrFun (congr_pay1 rfl e0 e1) _

/-- What the kernel writes: the sum over the Gaussians, at every point and column. -/
def splat : FVec Ideal S16384x16 .f32 := fun i =>
  ∑ l : Fin 4096, Ideal.exp2 (exponent (point m c (i 0)) (origin m c) (gauss m c l))
    * m ((c : Thread nD τ).loc main_arg2) (ix2 l (i 1))

/-- The kernel's result is that array. -/
theorem result_eq : Cert.KernelIdeal.Value.G6 m c = splat m c := by
  refine (Cert.KernelIdeal.Value.final6 m c).symm.trans ((dats m 0 c).arrAt_eq_of_covers 6 _ (by decide +kernel) fun t _ y => ?_)
  blk_simp
  rw [after0_6]
  have e : (win0_6.blk t).view.emb y = ix2 (ptOf t (y 0)) (y 1 : Fin 16) := by
    blk_ext [idx t, ptOf]
  have ey : (y : S8192x16.Idx) = ix2 (y 0 : Fin 8192) (y 1 : Fin 16) := by
    funext a
    match a with
    | ⟨0, _⟩ => rfl
    | ⟨1, _⟩ => rfl
  refine Eq.trans ?_ (congrArg (splat m c) e.symm)
  exact (congrArg (outsAt0 m c t.val t.isLt).1 ey).trans (outs_value m c t (y 0) (y 1))

end Cert.Splat

end
-- ==== Proof.Equation.lean ====
/- The equation of the two results: over the reals with infinities the kernel and the reference end with the same array. -/
module

public import proofs.«01_k».proof.Defs
public import proofs.«01_k».proof.Proof.Range
public import proofs.«01_k».proof.Proof.Array
public import proofs.«01_k».proof.Proof.Gen.KernelIdeal.Value
public import proofs.«01_k».proof.Proof.Gen.ReferenceIdeal.Run
public import Idealize.ShloMosaic.Adequacy
public import Idealize.ShloMosaic.Init

@[expose] public section

set_option maxRecDepth 16384

noncomputable section

namespace Cert.Splat

open Idealize.ShloMosaic Idealize.ShloMosaic.TcCoe Idealize.SL.Sem
open Cert.KernelIdeal

/-- The reference's value at the kernel's arguments is the kernel's array, for arguments under the precondition. -/
theorem reference_splat [Cert.ReferenceIdeal.Facts] [Cert.Pre_in_range.Facts] (m : (ℓ : Loc nD τ sig) → Buf (Elt Ideal) ℓ)
    (hpre : Cert.Pre_KernelIdeal_in_range m) (c : Dev nD) :
    Cert.ReferenceIdeal.Read.val_main_v120 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = splat m c := by
  funext i
  obtain ⟨p, y, rfl⟩ : ∃ p y, i = ix2 p y := by
    refine ⟨i 0, i 1, ?_⟩
    funext a
    match a with
    | ⟨0, _⟩ => rfl
    | ⟨1, _⟩ => rfl
  exact reference_at _ _ _ _ _ _ p y fun g => in_range _ _ _ _ _ _ (hpre c) p g

/-- From memories that agree on the arguments, under the precondition, both programs run and end with equal results. -/
theorem equation [Cert.KernelIdeal.Facts] [Cert.ReferenceIdeal.Facts] [Cert.Pre_in_range.Facts] :
    Cert.algebraic_KernelIdeal_ReferenceIdeal_pre_in_range := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  refine (Cert.ReferenceIdeal.Read.val_main_v120_eq (F := Ideal) m' c).trans ?_
  rw [e0, e1, e2, e3, e4, e5]
  exact (reference_splat m hpre c).trans (result_eq m c).symm

end Cert.Splat

end
-- ==== Proof.lean ====
module

public import proofs.«01_k».proof.Defs
public import proofs.«01_k».proof.Proof.Runs
public import proofs.«01_k».proof.Proof.Equation
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.Pre_in_range
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_in_range.Gen.facts,
    Cert.Splat.kernel_runs, Cert.Splat.kernelIdeal_runs, Cert.Splat.kernelIdeal_runs_in_range,
    Cert.Splat.reference_runs, Cert.Splat.reference_runs_in_range, Cert.Splat.constants, Cert.Splat.equation⟩

end Cert.Proof

end
